-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![2048, 1024]⟩ ⟨2, ![8192, 1024]⟩ 0 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![2048, 1024]⟩ ⟨2, ![8192, 1024]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v2_3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2048x1024 : Shape := ⟨2, ![2048, 1024]⟩
abbrev S4x2x1x512 : Shape := ⟨4, ![4, 2, 1, 512]⟩
abbrev S2 : Shape := ⟨1, ![2]⟩
abbrev S2x3 : Shape := ⟨2, ![2, 3]⟩
abbrev S_ : Shape := ⟨0, ![]⟩
abbrev S1 : Shape := ⟨1, ![1]⟩
abbrev S2048x512 : Shape := ⟨2, ![2048, 512]⟩
abbrev S1x512 : Shape := ⟨2, ![1, 512]⟩
abbrev S2047x512 : Shape := ⟨2, ![2047, 512]⟩
abbrev S2x512 : Shape := ⟨2, ![2, 512]⟩
abbrev S2046x512 : Shape := ⟨2, ![2046, 512]⟩
abbrev S4x512 : Shape := ⟨2, ![4, 512]⟩
abbrev S2044x512 : Shape := ⟨2, ![2044, 512]⟩
abbrev S8x512 : Shape := ⟨2, ![8, 512]⟩
abbrev S2040x512 : Shape := ⟨2, ![2040, 512]⟩
abbrev S16x512 : Shape := ⟨2, ![16, 512]⟩
abbrev S2032x512 : Shape := ⟨2, ![2032, 512]⟩
abbrev S32x512 : Shape := ⟨2, ![32, 512]⟩
abbrev S2016x512 : Shape := ⟨2, ![2016, 512]⟩
abbrev S64x512 : Shape := ⟨2, ![64, 512]⟩
abbrev S1984x512 : Shape := ⟨2, ![1984, 512]⟩
abbrev S128x512 : Shape := ⟨2, ![128, 512]⟩
abbrev S1920x512 : Shape := ⟨2, ![1920, 512]⟩
abbrev S256x512 : Shape := ⟨2, ![256, 512]⟩
abbrev S1792x512 : Shape := ⟨2, ![1792, 512]⟩
abbrev S1x1x1x512 : Shape := ⟨4, ![1, 1, 1, 512]⟩
abbrev S1x1 : Shape := ⟨2, ![1, 1]⟩
abbrev S512x512 : Shape := ⟨2, ![512, 512]⟩
abbrev S1536x512 : Shape := ⟨2, ![1536, 512]⟩
abbrev S1024x512 : Shape := ⟨2, ![1024, 512]⟩

abbrev nBuf : Space → Nat
  | .hbm => 2
  | .vmem => 3
  | .smem => 0
  | _ => 0

abbrev bufTy : (tb : Table) → Fin (tcTables nBuf tb) → BufTy
  | .hbm, ⟨0, _⟩ => ⟨S2048x1024, .bf16⟩
  | .hbm, ⟨1, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S4x2x1x512, .bf16⟩
  | _, _ => ⟨S2048x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  (ofTc nBuf bufTy 1 16 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_scratch0 : Ref sig .tc := ⟨.vmem, 0, rfl⟩
abbrev cc0_scratch1 : Ref sig .tc := ⟨.vmem, 1, rfl⟩
abbrev cc0_scratch2 : Ref sig .tc := ⟨.vmem, 2, rfl⟩
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_dev4 (d0 : Dev nD) : Nat :=
  let c0_i32_71 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_55 : BitVec 32 := 1#32
  let v102 : BitVec 32 := Scalar.addi v2 c1_i32_55
  let c4_i32_56 : BitVec 32 := 4#32
  let c0_i32_57 : BitVec 32 := 0#32
  let v103 : BitVec 1 := Scalar.cmpi .eq c4_i32_56 c0_i32_57
  let c1_i32_58 : BitVec 32 := 1#32
  let v104 : BitVec 32 := Scalar.select v103 c1_i32_58 c4_i32_56
  let v105 : BitVec 32 := Scalar.remsi v102 v104
  let c0_i32_60 : BitVec 32 := 0#32
  let v107 : BitVec 1 := Scalar.cmpi .slt v105 c0_i32_60
  let c0_i32_61 : BitVec 32 := 0#32
  let v108 : BitVec 1 := Scalar.cmpi .slt v104 c0_i32_61
  let v109 : BitVec 1 := Scalar.xori v107 v108
  let c0_i32_59 : BitVec 32 := 0#32
  let v106 : BitVec 1 := Scalar.cmpi .ne v105 c0_i32_59
  let v110 : BitVec 1 := Scalar.andi v109 v106
  let v111 : BitVec 32 := Scalar.addi v105 v104
  let v112 : BitVec 32 := Scalar.select v110 v111 v105
  let c1_i32_70 : BitVec 32 := 1#32
  let v113 : BitVec 32 := Scalar.muli v112 c1_i32_70
  let v114 : BitVec 32 := Scalar.addi c0_i32_71 v113
  v114.toNat
def k0_dev5 (d0 : Dev nD) : Nat :=
  let c0_i32_92 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_76 : BitVec 32 := 2#32
  let v123 : BitVec 32 := Scalar.addi v2 c2_i32_76
  let c4_i32_77 : BitVec 32 := 4#32
  let c0_i32_78 : BitVec 32 := 0#32
  let v124 : BitVec 1 := Scalar.cmpi .eq c4_i32_77 c0_i32_78
  let c1_i32_79 : BitVec 32 := 1#32
  let v125 : BitVec 32 := Scalar.select v124 c1_i32_79 c4_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  let c1_i32_91 : BitVec 32 := 1#32
  let v134 : BitVec 32 := Scalar.muli v133 c1_i32_91
  let v135 : BitVec 32 := Scalar.addi c0_i32_92 v134
  v135.toNat
def k0_dev6 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_97 : BitVec 32 := 3#32
  let v144 : BitVec 32 := Scalar.addi v2 c3_i32_97
  let c4_i32_98 : BitVec 32 := 4#32
  let c0_i32_99 : BitVec 32 := 0#32
  let v145 : BitVec 1 := Scalar.cmpi .eq c4_i32_98 c0_i32_99
  let c1_i32_100 : BitVec 32 := 1#32
  let v146 : BitVec 32 := Scalar.select v145 c1_i32_100 c4_i32_98
  let v147 : BitVec 32 := Scalar.remsi v144 v146
  let c0_i32_102 : BitVec 32 := 0#32
  let v149 : BitVec 1 := Scalar.cmpi .slt v147 c0_i32_102
  let c0_i32_103 : BitVec 32 := 0#32
  let v150 : BitVec 1 := Scalar.cmpi .slt v146 c0_i32_103
  let v151 : BitVec 1 := Scalar.xori v149 v150
  let c0_i32_101 : BitVec 32 := 0#32
  let v148 : BitVec 1 := Scalar.cmpi .ne v147 c0_i32_101
  let v152 : BitVec 1 := Scalar.andi v151 v148
  let v153 : BitVec 32 := Scalar.addi v147 v146
  let v154 : BitVec 32 := Scalar.select v152 v153 v147
  let c1_i32_112 : BitVec 32 := 1#32
  let v155 : BitVec 32 := Scalar.muli v154 c1_i32_112
  let v156 : BitVec 32 := Scalar.addi c0_i32_113 v155
  v156.toNat
def k0_dev7 (d0 : Dev nD) : Nat :=
  let c0_i32_154 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_138 : BitVec 32 := 1#32
  let v223 : BitVec 32 := Scalar.addi v2 c1_i32_138
  let c4_i32_139 : BitVec 32 := 4#32
  let c0_i32_140 : BitVec 32 := 0#32
  let v224 : BitVec 1 := Scalar.cmpi .eq c4_i32_139 c0_i32_140
  let c1_i32_141 : BitVec 32 := 1#32
  let v225 : BitVec 32 := Scalar.select v224 c1_i32_141 c4_i32_139
  let v226 : BitVec 32 := Scalar.remsi v223 v225
  let c0_i32_143 : BitVec 32 := 0#32
  let v228 : BitVec 1 := Scalar.cmpi .slt v226 c0_i32_143
  let c0_i32_144 : BitVec 32 := 0#32
  let v229 : BitVec 1 := Scalar.cmpi .slt v225 c0_i32_144
  let v230 : BitVec 1 := Scalar.xori v228 v229
  let c0_i32_142 : BitVec 32 := 0#32
  let v227 : BitVec 1 := Scalar.cmpi .ne v226 c0_i32_142
  let v231 : BitVec 1 := Scalar.andi v230 v227
  let v232 : BitVec 32 := Scalar.addi v226 v225
  let v233 : BitVec 32 := Scalar.select v231 v232 v226
  let c1_i32_153 : BitVec 32 := 1#32
  let v234 : BitVec 32 := Scalar.muli v233 c1_i32_153
  let v235 : BitVec 32 := Scalar.addi c0_i32_154 v234
  v235.toNat
def k0_dev8 (d0 : Dev nD) : Nat :=
  let c0_i32_175 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_159 : BitVec 32 := 2#32
  let v244 : BitVec 32 := Scalar.addi v2 c2_i32_159
  let c4_i32_160 : BitVec 32 := 4#32
  let c0_i32_161 : BitVec 32 := 0#32
  let v245 : BitVec 1 := Scalar.cmpi .eq c4_i32_160 c0_i32_161
  let c1_i32_162 : BitVec 32 := 1#32
  let v246 : BitVec 32 := Scalar.select v245 c1_i32_162 c4_i32_160
  let v247 : BitVec 32 := Scalar.remsi v244 v246
  let c0_i32_164 : BitVec 32 := 0#32
  let v249 : BitVec 1 := Scalar.cmpi .slt v247 c0_i32_164
  let c0_i32_165 : BitVec 32 := 0#32
  let v250 : BitVec 1 := Scalar.cmpi .slt v246 c0_i32_165
  let v251 : BitVec 1 := Scalar.xori v249 v250
  let c0_i32_163 : BitVec 32 := 0#32
  let v248 : BitVec 1 := Scalar.cmpi .ne v247 c0_i32_163
  let v252 : BitVec 1 := Scalar.andi v251 v248
  let v253 : BitVec 32 := Scalar.addi v247 v246
  let v254 : BitVec 32 := Scalar.select v252 v253 v247
  let c1_i32_174 : BitVec 32 := 1#32
  let v255 : BitVec 32 := Scalar.muli v254 c1_i32_174
  let v256 : BitVec 32 := Scalar.addi c0_i32_175 v255
  v256.toNat
def k0_dev9 (d0 : Dev nD) : Nat :=
  let c0_i32_196 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_180 : BitVec 32 := 3#32
  let v265 : BitVec 32 := Scalar.addi v2 c3_i32_180
  let c4_i32_181 : BitVec 32 := 4#32
  let c0_i32_182 : BitVec 32 := 0#32
  let v266 : BitVec 1 := Scalar.cmpi .eq c4_i32_181 c0_i32_182
  let c1_i32_183 : BitVec 32 := 1#32
  let v267 : BitVec 32 := Scalar.select v266 c1_i32_183 c4_i32_181
  let v268 : BitVec 32 := Scalar.remsi v265 v267
  let c0_i32_185 : BitVec 32 := 0#32
  let v270 : BitVec 1 := Scalar.cmpi .slt v268 c0_i32_185
  let c0_i32_186 : BitVec 32 := 0#32
  let v271 : BitVec 1 := Scalar.cmpi .slt v267 c0_i32_186
  let v272 : BitVec 1 := Scalar.xori v270 v271
  let c0_i32_184 : BitVec 32 := 0#32
  let v269 : BitVec 1 := Scalar.cmpi .ne v268 c0_i32_184
  let v273 : BitVec 1 := Scalar.andi v272 v269
  let v274 : BitVec 32 := Scalar.addi v268 v267
  let v275 : BitVec 32 := Scalar.select v273 v274 v268
  let c1_i32_195 : BitVec 32 := 1#32
  let v276 : BitVec 32 := Scalar.muli v275 c1_i32_195
  let v277 : BitVec 32 := Scalar.addi c0_i32_196 v276
  v277.toNat
-- ==== ReferenceIdeal.lean ====
abbrev S8192x1024 : Shape := ⟨2, ![8192, 1024]⟩
abbrev S_ : Shape := ⟨0, ![]⟩
abbrev S1024 : Shape := ⟨1, ![1024]⟩
abbrev S1x1024 : Shape := ⟨2, ![1, 1024]⟩

abbrev nBuf : Space → Nat
  | .hbm => 21
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S_, .bf16⟩
  | .hbm, ⟨2, _⟩ => ⟨S1024, .bf16⟩
  | .hbm, ⟨3, _⟩ => ⟨S_, .bf16⟩
  | .hbm, ⟨4, _⟩ => ⟨S8192x1024, .bf16⟩
  | .hbm, ⟨5, _⟩ => ⟨S_, .i32⟩
  | .hbm, ⟨6, _⟩ => ⟨S8192x1024, .bf16⟩
  | .hbm, ⟨7, _⟩ => ⟨S_, .i32⟩
  | .hbm, ⟨8, _⟩ => ⟨S1024, .bf16⟩
  | .hbm, ⟨9, _⟩ => ⟨S8192x1024, .bf16⟩
  | .hbm, ⟨10, _⟩ => ⟨S_, .i32⟩
  | .hbm, ⟨11, _⟩ => ⟨S_, .i1⟩
  | .hbm, ⟨12, _⟩ => ⟨S_, .i32⟩
  | .hbm, ⟨13, _⟩ => ⟨S1x1024, .bf16⟩
  | .hbm, ⟨14, _⟩ => ⟨S1024, .bf16⟩
  | .hbm, ⟨15, _⟩ => ⟨S1024, .bf16⟩
  | .hbm, ⟨16, _⟩ => ⟨S1x1024, .bf16⟩
  | .hbm, ⟨17, _⟩ => ⟨S_, .i32⟩
  | .hbm, ⟨18, _⟩ => ⟨S8192x1024, .bf16⟩
  | .hbm, ⟨19, _⟩ => ⟨S_, .i32⟩
  | .hbm, ⟨20, _⟩ => ⟨S_, .i32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_cst_0 : Ref sig .tc := ⟨.hbm, 3, rfl⟩
abbrev main_v1 : Ref sig .tc := ⟨.hbm, 4, rfl⟩
abbrev main_c : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev main_v2_3 : Ref sig .tc := ⟨.hbm, 9, rfl⟩
abbrev main_while0c_c_4 : Ref sig .tc := ⟨.hbm, 10, rfl⟩
abbrev main_while0c_v3 : Ref sig .tc := ⟨.hbm, 11, rfl⟩
abbrev main_while0b_call0_c : Ref sig .tc := ⟨.hbm, 12, rfl⟩
abbrev main_while0b_call0_v0 : Ref sig .tc := ⟨.hbm, 13, rfl⟩
abbrev main_while0b_v3 : Ref sig .tc := ⟨.hbm, 14, rfl⟩
abbrev main_while0b_v4 : Ref sig .tc := ⟨.hbm, 15, rfl⟩
abbrev main_while0b_call1_v0 : Ref sig .tc := ⟨.hbm, 16, rfl⟩
abbrev main_while0b_call1_c : Ref sig .tc := ⟨.hbm, 17, rfl⟩
abbrev main_while0b_v5 : Ref sig .tc := ⟨.hbm, 18, rfl⟩
abbrev main_while0b_c_4 : Ref sig .tc := ⟨.hbm, 19, rfl⟩
abbrev main_while0b_v6 : Ref sig .tc := ⟨.hbm, 20, rfl⟩

abbrev nD : Nat := 1
abbrev τ : Topo := Topo.v7x

variable {F : FTy → Type} [FloatOps F]

abbrev main_while0_count : Scf.Loop 32 := ⟨0#32, 8192#32, 1#32⟩
-- ==== Proof.Protocol.lean ====
/-
# The exchange of block products: its cells, its schedule and what each device owes

Every device copies its block into fast memory in two column groups, sends the product of each column
group's rows to the three other devices, receives theirs, and copies its finished rows out. Seventeen
semaphores of each device take part: the barrier (index 0) and sixteen transfer semaphores. This file names
them, says what passes hands at each (the schedule), and orders them so that no device can wait in a circle.
The statements hold for any interpretation of the float types.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Exec.Context
public import Idealize.ShloMosaic.Lib.VecWindow
public import Idealize.ShloMosaic.Lib.Ring
public import Idealize.ShloMosaic.Lib.Ring.Trips
public import Idealize.ShloMosaic.Lib.Tactic

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The ghost state: the launch library's own, and the exchange's with three duty names per round -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The devices in their circle -/

/-- The device `k + 1` places after `c`. -/
def up (k : Fin 3) (c : Dev nD) : Dev nD := ⟨(c.val + (k.val + 1)) % 4, Nat.mod_lt _ (by decide)⟩
/-- The device `k + 1` places before `c`. -/
def dn (k : Fin 3) (c : Dev nD) : Dev nD := ⟨(c.val + (3 - k.val)) % 4, Nat.mod_lt _ (by decide)⟩

theorem dn_up (k : Fin 3) (c : Dev nD) : dn k (up k c) = c := by revert k c; decide
theorem up_dn (k : Fin 3) (c : Dev nD) : up k (dn k c) = c := by revert k c; decide
theorem up_rev (k : Fin 3) (c : Dev nD) : up k.rev (up k c) = c := by revert k c; decide
theorem up_ne (k : Fin 3) (c : Dev nD) : up k c ≠ c := by revert k c; decide

/-- Going `k + 1` places round the circle, as a permutation of the devices. -/
def turn (k : Fin 3) : Dev nD ≃ Dev nD := ⟨up k, dn k, dn_up k, up_dn k⟩

theorem dev1_eq (c : Dev nD) : (⟨k0_dev1 c, k0_dev1_lt c⟩ : Dev nD) = up 0 c := by revert c; decide
theorem dev2_eq (c : Dev nD) : (⟨k0_dev2 c, k0_dev2_lt c⟩ : Dev nD) = up 1 c := by revert c; decide
theorem dev3_eq (c : Dev nD) : (⟨k0_dev3 c, k0_dev3_lt c⟩ : Dev nD) = up 2 c := by revert c; decide
theorem dev4_eq (c : Dev nD) : (⟨k0_dev4 c, k0_dev4_lt c⟩ : Dev nD) = up 0 c := by revert c; decide
theorem dev5_eq (c : Dev nD) : (⟨k0_dev5 c, k0_dev5_lt c⟩ : Dev nD) = up 1 c := by revert c; decide
theorem dev6_eq (c : Dev nD) : (⟨k0_dev6 c, k0_dev6_lt c⟩ : Dev nD) = up 2 c := by revert c; decide
theorem dev7_eq (c : Dev nD) : (⟨k0_dev7 c, k0_dev7_lt c⟩ : Dev nD) = up 0 c := by revert c; decide
theorem dev8_eq (c : Dev nD) : (⟨k0_dev8 c, k0_dev8_lt c⟩ : Dev nD) = up 1 c := by revert c; decide
theorem dev9_eq (c : Dev nD) : (⟨k0_dev9 c, k0_dev9_lt c⟩ : Dev nD) = up 2 c := by revert c; decide

/-! ## The buffers and their pieces -/

abbrev aM : Memref sig .tc .hbm S2048x1024 .bf16 := Memref.whole main_arg0
abbrev yM : Memref sig .tc .hbm S2048x1024 .bf16 := Memref.whole main_v1
abbrev iM : Memref sig .tc .vmem S2048x1024 .bf16 := Memref.whole cc0_scratch0
abbrev oM : Memref sig .tc .vmem S2048x1024 .bf16 := Memref.whole cc0_scratch1
abbrev tM : Memref sig .tc .vmem S4x2x1x512 .bf16 := Memref.whole cc0_scratch2

theorem half_inb (g : Fin 2) : ∀ a, (![0, 512 * g.val] : Fin 2 → ℕ) a + S2048x512.size a ≤ S2048x1024.size a := by
  revert g; decide
theorem slot_inb (k : Fin 4) (g : Fin 2) : ∀ a, (![k.val, g.val, 0, 0] : Fin 4 → ℕ) a + S1x1x1x512.size a ≤ S4x2x1x512.size a := by
  revert k g; decide

/-- The columns of group `g`: 512 of the 1024. -/
abbrev halfR (g : Fin 2) : Rect S2048x1024 := Rect.unit (s := S2048x1024) ![0, 512 * g.val] S2048x512.size (half_inb g)
/-- Slot `k`, group `g` of the buffer of block products. -/
abbrev slotR (k : Fin 4) (g : Fin 2) : Rect S4x2x1x512 := Rect.unit (s := S4x2x1x512) ![k.val, g.val, 0, 0] S1x1x1x512.size (slot_inb k g)

abbrev aH (g : Fin 2) : Memref sig .tc .hbm S2048x512 .bf16 := aM.slice (halfR g) (fun _ => rfl)
abbrev yH (g : Fin 2) : Memref sig .tc .hbm S2048x512 .bf16 := yM.slice (halfR g) (fun _ => rfl)
abbrev iH (g : Fin 2) : Memref sig .tc .vmem S2048x512 .bf16 := iM.slice (halfR g) (fun _ => rfl)
abbrev oH (g : Fin 2) : Memref sig .tc .vmem S2048x512 .bf16 := oM.slice (halfR g) (fun _ => rfl)
abbrev sl (k : Fin 4) (g : Fin 2) : Memref sig .tc .vmem S1x512 .bf16 :=
  (tM.slice (slotR k g) (fun _ => rfl)).squeeze S1x512 squeezes_S1x1x1x512_S1x512

/-! ## The semaphores -/

abbrev barS : Sem sig := (SemArray.scalar (sig.barrier 0 rfl) : Sems sig S_).sem

/-- Transfer semaphore number `i`. -/
abbrev dS (i : Fin 16) : DmaSem sig := i

abbrev bar (c : Dev nD) : GSem nD τ sig := ((c : Thread nD τ), .reg barS)
abbrev dc (c : Dev nD) (i : Fin 16) : GSem nD τ sig := ((c : Thread nD τ), .dma (dS i))

theorem sem_in0 : ((cc0_scratch3.slice (Rect.unit (s := S2) ![0] S1.size inb_S2_S1_0)).squeeze S_ squeezes_S1_S_).sem = dS 0 := rfl
theorem sem_in1 : ((cc0_scratch3.slice (Rect.unit (s := S2) ![1] S1.size inb_S2_S1_1)).squeeze S_ squeezes_S1_S_).sem = dS 1 := rfl
theorem sem_out0 : ((cc0_scratch4.slice (Rect.unit (s := S2) ![0] S1.size inb_S2_S1_0)).squeeze S_ squeezes_S1_S_).sem = dS 2 := rfl
theorem sem_out1 : ((cc0_scratch4.slice (Rect.unit (s := S2) ![1] S1.size inb_S2_S1_1)).squeeze S_ squeezes_S1_S_).sem = dS 3 := rfl
theorem sem_snd00 : ((cc0_scratch5.slice (Rect.unit (s := S2x3) ![0, 0] S1x1.size inb_S2x3_S1x1_0_0)).squeeze S_ squeezes_S1x1_S_).sem = dS 4 := rfl
theorem sem_snd01 : ((cc0_scratch5.slice (Rect.unit (s := S2x3) ![0, 1] S1x1.size inb_S2x3_S1x1_0_1)).squeeze S_ squeezes_S1x1_S_).sem = dS 5 := rfl
theorem sem_snd02 : ((cc0_scratch5.slice (Rect.unit (s := S2x3) ![0, 2] S1x1.size inb_S2x3_S1x1_0_2)).squeeze S_ squeezes_S1x1_S_).sem = dS 6 := rfl
theorem sem_snd10 : ((cc0_scratch5.slice (Rect.unit (s := S2x3) ![1, 0] S1x1.size inb_S2x3_S1x1_1_0)).squeeze S_ squeezes_S1x1_S_).sem = dS 7 := rfl
theorem sem_snd11 : ((cc0_scratch5.slice (Rect.unit (s := S2x3) ![1, 1] S1x1.size inb_S2x3_S1x1_1_1)).squeeze S_ squeezes_S1x1_S_).sem = dS 8 := rfl
theorem sem_snd12 : ((cc0_scratch5.slice (Rect.unit (s := S2x3) ![1, 2] S1x1.size inb_S2x3_S1x1_1_2)).squeeze S_ squeezes_S1x1_S_).sem = dS 9 := rfl
theorem sem_rcv00 : ((cc0_scratch6.slice (Rect.unit (s := S2x3) ![0, 0] S1x1.size inb_S2x3_S1x1_0_0)).squeeze S_ squeezes_S1x1_S_).sem = dS 10 := rfl
theorem sem_rcv01 : ((cc0_scratch6.slice (Rect.unit (s := S2x3) ![0, 1] S1x1.size inb_S2x3_S1x1_0_1)).squeeze S_ squeezes_S1x1_S_).sem = dS 11 := rfl
theorem sem_rcv02 : ((cc0_scratch6.slice (Rect.unit (s := S2x3) ![0, 2] S1x1.size inb_S2x3_S1x1_0_2)).squeeze S_ squeezes_S1x1_S_).sem = dS 12 := rfl
theorem sem_rcv10 : ((cc0_scratch6.slice (Rect.unit (s := S2x3) ![1, 0] S1x1.size inb_S2x3_S1x1_1_0)).squeeze S_ squeezes_S1x1_S_).sem = dS 13 := rfl
theorem sem_rcv11 : ((cc0_scratch6.slice (Rect.unit (s := S2x3) ![1, 1] S1x1.size inb_S2x3_S1x1_1_1)).squeeze S_ squeezes_S1x1_S_).sem = dS 14 := rfl
theorem sem_rcv12 : ((cc0_scratch6.slice (Rect.unit (s := S2x3) ![1, 2] S1x1.size inb_S2x3_S1x1_1_2)).squeeze S_ squeezes_S1x1_S_).sem = dS 15 := rfl

/-- All seventeen semaphores of a device: the barrier, then the sixteen of transfers. -/
abbrev csem (j : Fin 17) : SemLoc sig := Fin.cases (.reg barS) (fun i => .dma (dS i)) j
/-- The sixteen that live only as long as the kernel. -/
abbrev osem (i : Fin 16) : SemLoc sig := .dma (dS i)
abbrev kcell (cj : Dev nD × Fin 17) : GSem nD τ sig := ((cj.1 : Thread nD τ), csem cj.2)

/-- What a transfer of one column group of a block credits, and what a transfer of one block product does. -/
abbrev NB : ℕ := (iH 0).view.dmaCredit
abbrev NS : ℕ := (sl 0 0).view.dmaCredit
theorem NB_pos : 0 < NB := View.dmaCredit_pos _ (by decide)
theorem NS_pos : 0 < NS := View.dmaCredit_pos _ (by decide)

/-- What a transfer semaphore counts in its one round. -/
def amt (i : Fin 16) : ℕ := if i.val < 4 then NB else NS
theorem amt_pos (i : Fin 16) : 0 < amt i := by unfold amt; split; exacts [NB_pos, NS_pos]

/-! ## The contents -/

/-- Column group `g` of device `c`'s block of the argument. -/
def xin (c : Dev nD) (g : Fin 2) : FVec F S2048x512 .bf16 := (aH g).view.read (Elt F) (m ((c : Thread nD τ).loc main_arg0))

/-- The products over windows of 512 rows, first column group: the scan's state when the block products are taken. -/
abbrev acc0 (c : Dev nD) : FVec F S2048x512 .bf16 := k0_pay4 (k0_pay1 (xin m c 0)) k0_pay2 (k0_pay3 (xin m c 0))
/-- The same state, second column group. -/
abbrev acc1 (c : Dev nD) : FVec F S2048x512 .bf16 := k0_pay10 (k0_pay8 (xin m c 1)) (k0_pay9 (xin m c 1))

/-- The product of all rows of column group `g` of device `c`'s block, as it is stored in slot 0. -/
def tot4 (c : Dev nD) : Fin 2 → FVec F S1x1x1x512 .bf16
  | 0 => k0_pay5 (k0_pay1 (xin m c 0)) k0_pay2 (k0_pay3 (xin m c 0))
  | 1 => k0_pay11 (k0_pay8 (xin m c 1)) (k0_pay9 (xin m c 1))
/-- The same, as a transfer reads it. -/
def tot (c : Dev nD) (g : Fin 2) : FVec F S1x512 .bf16 := shapeCast S1x512 (tot4 m c g) shapeCasts_S1x1x1x512_S1x512

/-- What a load of slot `k + 1`, group `g` of device `c` reads once the product of the device `k + 1` places
    before has landed. -/
def got (c : Dev nD) (k : Fin 3) (g : Fin 2) : Vec F S1x1x1x512 .bf16 := tot4 m (dn k c) g

/-- Device `c`'s number as the kernel computes it. -/
abbrev pos (c : Dev nD) : BitVec 32 := Scalar.remsi (Scalar.divsi (Dev.word c) 1#32) 4#32

/-- The finished rows of column group `g` of device `c`. -/
def res (c : Dev nD) : Fin 2 → FVec F S2048x512 .bf16
  | 0 => k0_pay16 (pos c) (k0_pay6 (acc0 m c)) (k0_pay7 (acc0 m c))
      (k0_pay15 (pos c) k0_pay14 (Scalar.subi (pos c) 1#32) 4#32 (Scalar.cmpi .eq 4#32 0#32) (got m c 0 0) (got m c 1 0))
      (Scalar.subi (pos c) 3#32) 4#32 (Scalar.cmpi .eq 4#32 0#32) (got m c 2 0)
  | 1 => k0_pay19 (pos c) (k0_pay12 (acc1 m c)) (k0_pay13 (acc1 m c))
      (k0_pay18 (pos c) k0_pay17 (Scalar.subi (pos c) 1#32) 4#32 (Scalar.cmpi .eq 4#32 0#32) (got m c 0 1) (got m c 1 1))
      (Scalar.subi (pos c) 3#32) 4#32 (Scalar.cmpi .eq 4#32 0#32) (got m c 2 1)

/-! ## What passes hands -/

/-- Column group `g` of the argument on device `c`, as launched. -/
def aP (c : Dev nD) (g : Fin 2) : sProp 𝕄 :=
  (aH g).view.loc (c : Thread nD τ) ↦[(aH g).view.set]{fullShare} m ((c : Thread nD τ).loc main_arg0)
/-- Column group `g` of the input buffer, holding the argument's. -/
def iP (c : Dev nD) (g : Fin 2) : sProp 𝕄 :=
  (iH g).view.loc (c : Thread nD τ) ↦[(iH g).view.set]{fullShare} (iH g).view.rep (xin m c g)
/-- Column group `g` of the output buffer, holding `w`. -/
def oP (c : Dev nD) (g : Fin 2) (w : FVec F S2048x512 .bf16) : sProp 𝕄 :=
  (oH g).view.loc (c : Thread nD τ) ↦[(oH g).view.set]{fullShare} (oH g).view.rep w
/-- Column group `g` of the result, holding `w`. -/
def yP (c : Dev nD) (g : Fin 2) (w : FVec F S2048x512 .bf16) : sProp 𝕄 :=
  (yH g).view.loc (c : Thread nD τ) ↦[(yH g).view.set]{fullShare} (yH g).view.rep w
/-- Slot `k`, group `g` of device `c`'s buffer of block products, a share of it, holding `w`. -/
def sP (c : Dev nD) (k : Fin 4) (g : Fin 2) (q : PosShare TreeShare) (w : FVec F S1x512 .bf16) : sProp 𝕄 :=
  (sl k g).view.loc (c : Thread nD τ) ↦[(sl k g).view.set]{q} (sl k g).view.rep w

/-- The slot pair that device `d` opens to the device `k + 1` places before it: anything may lie there. -/
abbrev openP (d : Dev nD) (k : Fin 3) : sProp 𝕄 :=
  iprop((∃ w, sP (F := F) d k.succ 0 fullShare w) ∗ (∃ w, sP (F := F) d k.succ 1 fullShare w))

/-- The barrier's duty `j` on device `c`, paid by the device `j + 1` places before it, hands over that device's slot pair. -/
def barPay (c : Dev nD) (j : Fin 3) : sProp 𝕄 := openP (dn j c) j.rev

/-- The share of slot 0 lent to the transfer numbered `k`. -/
abbrev lent (k : Fin 3) : PosShare TreeShare := Ring.shares3 fullShare k

def sendPay (c : Dev nD) (g : Fin 2) (k : Fin 3) : sProp 𝕄 := sP c 0 g (lent k) (tot m c g)
def recvPay (c : Dev nD) (g : Fin 2) (k : Fin 3) : sProp 𝕄 := sP c k.succ g fullShare (tot m (dn k c) g)

/-- What the one instalment of transfer semaphore `i` hands its device `c`. -/
def dmaPay (c : Dev nD) : Fin 16 → sProp 𝕄
  | 0 => iprop(iP m c 0 ∗ aP m c 0)
  | 1 => iprop(iP m c 1 ∗ aP m c 1)
  | 2 => iprop(yP c 0 (res m c 0) ∗ oP c 0 (res m c 0))
  | 3 => iprop(yP c 1 (res m c 1) ∗ oP c 1 (res m c 1))
  | 4 => sendPay m c 0 0
  | 5 => sendPay m c 0 1
  | 6 => sendPay m c 0 2
  | 7 => sendPay m c 1 0
  | 8 => sendPay m c 1 1
  | 9 => sendPay m c 1 2
  | 10 => recvPay m c 0 0
  | 11 => recvPay m c 0 1
  | 12 => recvPay m c 0 2
  | 13 => recvPay m c 1 0
  | 14 => recvPay m c 1 1
  | _ => recvPay m c 1 2

instance aP_storable (c : Dev nD) (g) : BI.Storable (upEmb : UEmb _ 𝕄) (aP (F := F) m c g) := by unfold aP; infer_instance
instance iP_storable (c : Dev nD) (g) : BI.Storable (upEmb : UEmb _ 𝕄) (iP (F := F) m c g) := by unfold iP; infer_instance
instance oP_storable (c : Dev nD) (g w) : BI.Storable (upEmb : UEmb _ 𝕄) (oP (F := F) c g w) := by unfold oP; infer_instance
instance yP_storable (c : Dev nD) (g w) : BI.Storable (upEmb : UEmb _ 𝕄) (yP (F := F) c g w) := by unfold yP; infer_instance
instance sP_storable (c : Dev nD) (k g q w) : BI.Storable (upEmb : UEmb _ 𝕄) (sP (F := F) c k g q w) := by unfold sP; infer_instance
instance barPay_storable (c : Dev nD) (j) : BI.Storable (upEmb : UEmb _ 𝕄) (barPay (F := F) c j) := by
  unfold barPay openP; infer_instance
instance dmaPay_storable (c : Dev nD) (i : Fin 16) : BI.Storable (upEmb : UEmb _ 𝕄) (dmaPay (F := F) m c i) := by
  unfold dmaPay sendPay recvPay; split <;> infer_instance

/-- The schedule: one round. The barrier has three duties of one unit; every transfer semaphore one duty of its amount. -/
def plan : Rounds.Schedule (GSem nD τ sig) (Fin 3) 𝕄 where
  duties g r := if r = 0 ∧ g.1.2 = .tc then (match g.2 with | .reg _ => Finset.univ | .dma _ => {0}) else ∅
  unitless _ := False
  amount g _ _ := match g.2 with | .reg _ => 1 | .dma i => amt i
  payload g _ d := match g.2 with | .reg _ => barPay g.1.1 d | .dma i => dmaPay m g.1.1 i
  amount_pos g _ _ _ := by
    rcases g with ⟨t, s | i⟩
    · exact Nat.one_pos
    · exact amt_pos i

instance plan_payload_storable (g : GSem nD τ sig) (r : ℕ) (d : Fin 3) :
    BI.Storable (upEmb : UEmb _ 𝕄) ((plan (F := F) m).payload g r d) := by
  rcases g with ⟨t, s | i⟩
  · exact barPay_storable t.1 d
  · exact dmaPay_storable m t.1 i

section Sched
variable (c : Dev nD)

theorem duties_bar : (plan (F := F) m).duties (bar c) 0 = Finset.univ := rfl
theorem duties_dma (i : Fin 16) : (plan (F := F) m).duties (dc c i) 0 = {0} := rfl
theorem duties_later (g : GSem nD τ sig) : ∀ r, 1 ≤ r → (plan (F := F) m).duties g r = ∅ :=
  fun r hr => if_neg fun h => by omega
theorem amount_bar (d : Fin 3) : (plan (F := F) m).amount (bar c) 0 d = 1 := rfl
theorem amount_dma (i : Fin 16) (d : Fin 3) : (plan (F := F) m).amount (dc c i) 0 d = amt i := rfl
theorem payload_bar (d : Fin 3) : (plan (F := F) m).payload (bar c) 0 d = barPay c d := rfl
theorem payload_dma (i : Fin 16) (d : Fin 3) : (plan (F := F) m).payload (dc c i) 0 d = dmaPay m c i := rfl

theorem expect_bar : (plan (F := F) m).expect (bar c) 0 = 3 := by
  unfold Schedule.expect Schedule.amountOf
  rw [duties_bar, Finset.sum_congr rfl fun d _ => amount_bar m c d]; rfl
theorem expect_dma (i : Fin 16) : (plan (F := F) m).expect (dc c i) 0 = amt i := by
  unfold Schedule.expect Schedule.amountOf; rw [duties_dma, Finset.sum_singleton, amount_dma]

/-- The barrier's round hands over all three slot pairs. -/
theorem rest_bar : bigSep ((plan (F := F) m).duties (bar c) 0 \ ∅) (fun d => (plan (F := F) m).payload (bar c) 0 d)
    = iprop(barPay c 0 ∗ barPay c 1 ∗ barPay c 2) := by
  rw [Finset.sdiff_empty, duties_bar, bigSep_univ_eq_bigSepL [0, 1, 2] (by decide) (by decide)]
  rfl
/-- A transfer semaphore's round hands over its one payload. -/
theorem rest_dma (i : Fin 16) : bigSep ((plan (F := F) m).duties (dc c i) 0 \ ∅) (fun d => (plan (F := F) m).payload (dc c i) 0 d)
    = dmaPay m c i := by
  rw [Finset.sdiff_empty, duties_dma, bigSep_singleton, payload_dma]

end Sched

/-! ## What each device owes at launch, and the order of the cells -/

/-- The receive semaphore for group `g`, place `k`. -/
abbrev rcv : Fin 2 → Fin 3 → Fin 16
  | 0, 0 => 10 | 0, 1 => 11 | 0, 2 => 12 | 1, 0 => 13 | 1, 1 => 14 | 1, 2 => 15
/-- The send semaphore for group `g`, place `k`. -/
abbrev snd : Fin 2 → Fin 3 → Fin 16
  | 0, 0 => 4 | 0, 1 => 5 | 0, 2 => 6 | 1, 0 => 7 | 1, 1 => 8 | 1, 2 => 9

theorem rcv_ge (g : Fin 2) (k : Fin 3) : 10 ≤ (rcv g k).val := by revert g k; decide

/-- The credit device `c` owes the receive semaphore `(g, k)` of the device `k + 1` places after it. -/
abbrev owe (c : Dev nD) (g : Fin 2) (k : Fin 3) : CellTallies nD τ sig Unit := tallyAt (dc (up k c) (rcv g k)) () NS

def R1 (c : Dev nD) : CellTallies nD τ sig Unit := 0 + owe c 1 2
def R2 (c : Dev nD) : CellTallies nD τ sig Unit := R1 c + owe c 1 1
def R3 (c : Dev nD) : CellTallies nD τ sig Unit := R2 c + owe c 1 0
def R4 (c : Dev nD) : CellTallies nD τ sig Unit := R3 c + owe c 0 2
def R5 (c : Dev nD) : CellTallies nD τ sig Unit := R4 c + owe c 0 1
def R6 (c : Dev nD) : CellTallies nD τ sig Unit := R5 c + owe c 0 0
def B1 (c : Dev nD) : CellTallies nD τ sig Unit := R6 c + tallyAt (bar (up 2 c)) () 1
def B2 (c : Dev nD) : CellTallies nD τ sig Unit := B1 c + tallyAt (bar (up 1 c)) () 1
/-- Everything device `c` owes at launch, in the reverse of the order in which it pays. -/
def O₀ (c : Dev nD) : CellTallies nD τ sig Unit := B2 c + tallyAt (bar (up 0 c)) () 1

def L (g : GSem nD τ sig) : Finset Unit := if g.1.2 = .tc then {()} else ∅
/-- Local transfers and sends come first, then the barrier, then the receives. -/
def lv (g : GSem nD τ sig) (_ : Unit) : ℕ := match g.2 with | .reg _ => 1 | .dma i => if 10 ≤ i.val then 2 else 0

theorem L_of_ne (g : GSem nD τ sig) (h : g.1.2 ≠ .tc) : L g = ∅ := if_neg h
theorem L_tc (c : Dev nD) (sm : SemLoc sig) : L ((c : Thread nD τ), sm) = {()} := if_pos rfl

/-- Tallies only on receive semaphores. -/
def OnlyRcv (O : CellTallies nD τ sig Unit) : Prop := ∀ g u, 0 < O g u → ∃ (d : Dev nD) (i : Fin 16), g = dc d i ∧ 10 ≤ i.val

theorem onlyRcv_zero : OnlyRcv 0 := fun g u h => absurd h (Nat.lt_irrefl 0)
theorem onlyRcv_add {O : CellTallies nD τ sig Unit} (h : OnlyRcv O) (c : Dev nD) (g : Fin 2) (k : Fin 3) : OnlyRcv (O + owe c g k) := fun x u hx => by
  rw [Pi.add_apply, Finsupp.add_apply, tallyAt_apply] at hx
  by_cases hn : x = dc (up k c) (rcv g k) ∧ u = ()
  · exact ⟨up k c, rcv g k, hn.1, rcv_ge g k⟩
  · rw [if_neg hn, Nat.add_zero] at hx; exact h x u hx
theorem onlyRcv_R3 (c : Dev nD) : OnlyRcv (R3 c) := onlyRcv_add (onlyRcv_add (onlyRcv_add onlyRcv_zero c 1 2) c 1 1) c 1 0
theorem onlyRcv_R6 (c : Dev nD) : OnlyRcv (R6 c) := onlyRcv_add (onlyRcv_add (onlyRcv_add (onlyRcv_R3 c) c 0 2) c 0 1) c 0 0

/-- Owing receive credits only, a device may wait at any cell that comes before the receives. -/
theorem mayWait_low (c : Dev nD) (sm : SemLoc sig) (hsm : lv ((c : Thread nD τ), sm) () ≤ 1) {O : CellTallies nD τ sig Unit} (hO : OnlyRcv O) :
    (levAts L lv : sProp 𝕄) ⊢ MayWait (c : Thread nD τ) sm () O :=
  MayOwe.of_cut (L := L) (lev := lv) 1 (fun p hp => by rw [Finset.mem_singleton.mp hp, L_tc]; exact Finset.mem_singleton_self _)
    (fun g u hg => by
      obtain ⟨d, i, rfl, -⟩ := hO g u hg
      rw [L_tc]; exact Finset.mem_singleton_self _)
    (fun p hp => by rw [Finset.mem_singleton.mp hp]; exact hsm)
    (fun g u hg => by
      obtain ⟨d, i, rfl, hi⟩ := hO g u hg
      show 1 < (if 10 ≤ i.val then 2 else 0)
      rw [if_pos hi]; decide)

/-! ## The records every device reads -/

/-- Every cell's invariant, under the names `K`, and that every cell stands at its round 0 or later. -/
def records (K : Dev nD × Fin 17 → ℕ) : sProp 𝕄 :=
  iprop((bigSep Finset.univ fun cj : Dev nD × Fin 17 => cellInv ER (plan m) (K cj) (kcell cj))
    ∗ bigSep Finset.univ fun cj : Dev nD × Fin 17 => reached ER (kcell cj) 0)

instance records_persistent (K : Dev nD × Fin 17 → ℕ) : BI.Persistent (records (F := F) m K) := by unfold records; infer_instance

variable (K : Dev nD × Fin 17 → ℕ)

theorem inv_at (cj : Dev nD × Fin 17) : records (F := F) m K ⊢ cellInv ER (plan m) (K cj) (kcell cj) := by
  unfold records
  exact (Laws.sep_elim_left).trans
    (bigSep_elim (Φ := fun cj : Dev nD × Fin 17 => (cellInv ER (plan m) (K cj) (kcell cj) : sProp 𝕄)) (Finset.mem_univ cj))
theorem reached_at (cj : Dev nD × Fin 17) : records (F := F) m K ⊢ reached ER (kcell cj) 0 := by
  unfold records
  exact (Laws.sep_elim_right).trans
    (bigSep_elim (Φ := fun cj : Dev nD × Fin 17 => (reached ER (kcell cj) 0 : sProp 𝕄)) (Finset.mem_univ cj))
theorem inv_bar (c : Dev nD) : records (F := F) m K ⊢ cellInv ER (plan m) (K (c, 0)) (bar c) := inv_at m K (c, 0)
theorem inv_dma (c : Dev nD) (i : Fin 16) : records (F := F) m K ⊢ cellInv ER (plan m) (K (c, i.succ)) (dc c i) := inv_at m K (c, i.succ)
theorem reached_bar (c : Dev nD) : records (F := F) m K ⊢ reached ER (bar c) 0 := reached_at m K (c, 0)
theorem reached_dma (c : Dev nD) (i : Fin 16) : records (F := F) m K ⊢ reached ER (dc c i) 0 := reached_at m K (c, i.succ)

/-- What a device owes, whatever waits it has recorded. -/
def owing (c : Dev nD) (O : CellTallies nD τ sig Unit) : sProp 𝕄 := iprop(∃ W : Waits sig Unit, owes (c : Thread nD τ) O W)

end Cert.Exchange

end
-- ==== Proof.Steps.lean ====
/-
# One rule per effect of the kernel

Each theorem here carries a device over one effect — a signal, a wait, a transfer, a load or a store — with the
schedule's records in hand: what the device gives up and what it gets back.
-/
module

public import proofs.«01_k».proof.Proof.Protocol
public import Idealize.ShloMosaic.Lib.Pipeline.Value

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- The triple of a program of device `c`. -/
abbrev runs {α : Type} (c : Dev nD) (p : Prog (TpuEff nD τ sig (Elt F) Λ₀ .tc) α) (Q : α → sProp 𝕄) : sProp 𝕄 :=
  wp frame (wpE (defs₀ (F := F)) 𝒱₀ (c : Thread nD τ) none) Set.univ p Q

variable (m : (ℓ : Loc nD τ sig) → Buf (Elt F) ℓ) (K : Dev nD × Fin 17 → ℕ)

/-! ## Small facts -/

theorem dmaPay_snd (c : Dev nD) (g : Fin 2) (k : Fin 3) : dmaPay m c (snd g k) = sendPay m c g k := by
  revert g k; intro g k; fin_cases g <;> fin_cases k <;> rfl
theorem dmaPay_rcv (c : Dev nD) (g : Fin 2) (k : Fin 3) : dmaPay m c (rcv g k) = recvPay m c g k := by
  revert g k; intro g k; fin_cases g <;> fin_cases k <;> rfl
theorem amt_snd (g : Fin 2) (k : Fin 3) : amt (snd g k) = NS := by
  fin_cases g <;> fin_cases k <;> rfl
theorem amt_rcv (g : Fin 2) (k : Fin 3) : amt (rcv g k) = NS := by
  fin_cases g <;> fin_cases k <;> rfl
/-- The semaphore of the copy in of group `g`, and of the copy out. -/
abbrev ins : Fin 2 → Fin 16 | 0 => 0 | 1 => 1
abbrev outs : Fin 2 → Fin 16 | 0 => 2 | 1 => 3
theorem amt_ins (g : Fin 2) : amt (ins g) = NB := by fin_cases g <;> rfl
theorem amt_outs (g : Fin 2) : amt (outs g) = NB := by fin_cases g <;> rfl
theorem dmaPay_ins (c : Dev nD) (g : Fin 2) : dmaPay m c (ins g) = iprop(iP m c g ∗ aP m c g) := by fin_cases g <;> rfl
theorem dmaPay_outs (c : Dev nD) (g : Fin 2) : dmaPay m c (outs g) = iprop(yP c g (res m c g) ∗ oP c g (res m c g)) := by
  fin_cases g <;> rfl
theorem credit_sl (k : Fin 4) (g : Fin 2) : (sl k g).view.dmaCredit = NS := rfl
theorem credit_iH (g : Fin 2) : (iH g).view.dmaCredit = NB := rfl
theorem credit_yH (g : Fin 2) : (yH g).view.dmaCredit = NB := rfl

theorem amount_sl (k : Fin 4) (g : Fin 2) (i : Fin 16) : (sl k g).view.amount (.dma (dS i)) = NS := rfl
theorem amount_iH (g : Fin 2) (i : Fin 16) : (iH g).view.amount (.dma (dS i)) = NB := rfl
theorem amount_yH (g : Fin 2) (i : Fin 16) : (yH g).view.amount (.dma (dS i)) = NB := rfl
theorem amount_snd (c : Dev nD) (g : Fin 2) (k : Fin 3) : (plan (F := F) m).amount (dc c (snd g k)) 0 0 = NS := (amount_dma m c _ 0).trans (amt_snd g k)
theorem amount_rcv (c : Dev nD) (g : Fin 2) (k : Fin 3) : (plan (F := F) m).amount (dc c (rcv g k)) 0 0 = NS := (amount_dma m c _ 0).trans (amt_rcv g k)
theorem amount_ins (c : Dev nD) (g : Fin 2) : (plan (F := F) m).amount (dc c (ins g)) 0 0 = NB := (amount_dma m c _ 0).trans (amt_ins g)
theorem amount_outs (c : Dev nD) (g : Fin 2) : (plan (F := F) m).amount (dc c (outs g)) 0 0 = NB := (amount_dma m c _ 0).trans (amt_outs g)

/-- Owing nothing, a device may wait anywhere. -/
theorem mayWait_free (c : Dev nD) (sm : SemLoc sig) : (levAts L lv : sProp 𝕄) ⊢ MayWait (c : Thread nD τ) sm () 0 := by
  rw [MayWait_zero]; iintro -; iempintro

variable {α : Type} (c : Dev nD)

/-! ## Signals and waits -/

/-- The signal to the device `j + 1` places on: its barrier's duty `j`, with this device's slot pair for it. -/
theorem step_signal (j : Fin 3) {n : Dev nD} (hn : n = up j c) (O : CellTallies nD τ sig Unit)
    {k : PUnit → Prog (TpuEff nD τ sig (Elt F) Λ₀ .tc) α} {Q : α → sProp 𝕄} :
    iprop(records m K ∗ owing c (O + tallyAt (bar (up j c)) () 1) ∗ dutyTok ER (bar (up j c)) 0 j ∗ openP c j.rev)
      ⊢ iprop((owing c O -∗ runs c (k ⟨⟩) Q) -∗ runs c (.op (.semSignal (n : Thread nD τ) barS 1) k) Q) := by
  subst hn
  unfold owing
  iintro ⟨#HR, ⟨%W, HO⟩, Ht, Hp⟩ Hk
  iapply (Rounds.wp_signal 𝒱₀ ER (plan m) (c : Thread nD τ) none (dst := (up j c : Thread nD τ)) (κ := K (up j c, 0))
      (d := j) (by rw [duties_bar]; exact Finset.mem_univ _) (amount_bar m (up j c) j) () O rfl (W := W)) $$ [HO Ht Hp]
  · isplitr; · iapply (inv_bar m K (up j c)); iexact HR
    isplitl [HO]; · iexact HO
    isplitl [Ht]; · iexact Ht
    isplitl [Hp]; · rw [payload_bar]; unfold barPay; rw [dn_up]; iexact Hp
    iapply (reached_bar m K (up j c)); iexact HR
  iintro HO
  iapply Hk
  iexists W; iexact HO

/-- The wait for all three signals: the three slot pairs opened to this device, and its barrier at zero again. -/
theorem step_bar {sem : Sem sig} (hs : sem = barS) (O : CellTallies nD τ sig Unit) (hO : OnlyRcv O)
    {k : PUnit → Prog (TpuEff nD τ sig (Elt F) Λ₀ .tc) α} {Q : α → sProp 𝕄} :
    iprop(records m K ∗ levAts L lv ∗ owing c O ∗ cred (tallyAt (bar c) () 3) ∗ atPos ER (bar c) 0 ∅ 0)
      ⊢ iprop(((owing c O ∗ semVal (bar c) 0 ∗ openP (up 0 c) 0 ∗ openP (up 1 c) 1 ∗ openP (up 2 c) 2) -∗ runs c (k ⟨⟩) Q)
          -∗ runs c (.op (.semWait sem 3) k) Q) := by
  subst hs
  unfold owing
  iintro ⟨#HR, #Hlev, ⟨%W, HO⟩, Hc, Hat⟩ Hk
  iapply (Rounds.wp_wait_rest_token 𝒱₀ ER (plan m) (c : Thread nD τ) none (κ := K (c, 0))
      (wpE_semWait_eq 𝒱₀ (c : Thread nD τ) none Set.univ) (Set.mem_univ _) () (O := O) (W := W) (R := 0) (m := 0) (T := ∅)
      (by rw [expect_bar])) $$ [Hc HO Hat]
  · isplitr; · iapply (inv_bar m K c); iexact HR
    isplitl [Hc]; · iexact Hc
    isplitl [HO]; · iexact HO
    isplitr; · iapply (mayWait_low c (.reg barS) (le_refl 1) hO); iexact Hlev
    iexact Hat
  iintro ⟨HO, Hat, -, Hpay⟩
  ihave Hp := (Entails.of_eq (rest_bar m c)) $$ Hpay
  icases Hp with ⟨H0, H1, H2⟩
  imod (Rounds.cell_close ER (plan m) (Set.mem_univ (K (c, 0))) (fun h => h) (R := 0 + 1) (duties_later m (bar c))) $$ [Hat] with Hz
  · isplitr; · iapply (inv_bar m K c); iexact HR
    iexact Hat
  iapply Hk
  isplitl [HO]; · iexists _; iexact HO
  isplitl [Hz]; · iexact Hz
  isplitl [H2]; · ihave H := (Entails.of_eq (show barPay (F := F) c 2 = openP (up 0 c) 0 from rfl)) $$ H2; iexact H
  isplitl [H1]; · ihave H := (Entails.of_eq (show barPay (F := F) c 1 = openP (up 1 c) 1 from rfl)) $$ H1; iexact H
  ihave H := (Entails.of_eq (show barPay (F := F) c 0 = openP (up 2 c) 2 from rfl)) $$ H0; iexact H

/-- The wait at transfer semaphore `i` for its one instalment: the payload, and the semaphore at zero again. -/
theorem step_wait (i : Fin 16) {sem : DmaSem sig} (hs : dS i = sem) (O : CellTallies nD τ sig Unit)
    (hM : (levAts L lv : sProp 𝕄) ⊢ MayWait (c : Thread nD τ) (.dma (dS i)) () O)
    {sp sp' : Space} {s s' : Shape} {e e' : EltTy} {src : Memref sig .tc sp' s' e'} {dst : Memref sig .tc sp s e}
    {hsrc : src.view.WordExact} {hdst : dst.view.WordExact} (hN : dst.view.dmaCredit = amt i)
    {k : PUnit → Prog (TpuEff nD τ sig (Elt F) Λ₀ .tc) α} {Q : α → sProp 𝕄} :
    iprop(records m K ∗ levAts L lv ∗ owing c O ∗ cred (tallyAt (dc c i) () (amt i)) ∗ atPos ER (dc c i) 0 ∅ 0)
      ⊢ iprop(((owing c O ∗ semVal (dc c i) 0 ∗ dmaPay m c i) -∗ runs c (k ⟨⟩) Q)
          -∗ runs c (.op (.waitDma2 sem src dst hsrc hdst) k) Q) := by
  subst hs
  unfold owing
  iintro ⟨#HR, #Hlev, ⟨%W, HO⟩, Hc, Hat⟩ Hk
  rw [← hN]
  iapply (Rounds.wp_wait_rest_token 𝒱₀ ER (plan m) (c : Thread nD τ) none (κ := K (c, i.succ))
      (wpE_waitDma2_eq 𝒱₀ (c : Thread nD τ) none Set.univ) (Set.mem_univ _) () (O := O) (W := W) (R := 0) (m := 0) (T := ∅)
      (by rw [expect_dma, Nat.zero_add, hN])) $$ [Hc HO Hat]
  · isplitr; · iapply (inv_dma m K c i); iexact HR
    isplitl [Hc]; · iexact Hc
    isplitl [HO]; · iexact HO
    isplitr; · iapply hM; iexact Hlev
    iexact Hat
  iintro ⟨HO, Hat, -, Hpay⟩
  ihave Hp := (Entails.of_eq (rest_dma m c i)) $$ Hpay
  imod (Rounds.cell_close ER (plan m) (Set.mem_univ (K (c, i.succ))) (fun h => h) (R := 0 + 1) (duties_later m (dc c i))) $$ [Hat] with Hz
  · isplitr; · iapply (inv_dma m K c i); iexact HR
    iexact Hat
  iapply Hk
  isplitl [HO]; · iexists _; iexact HO
  isplitl [Hz]; · iexact Hz
  iexact Hp

/-! ## Transfers -/

/-- The transfer of a block product to the device `j + 1` places on: a third of slot 0 is lent, the slot opened there filled. -/
theorem step_send (g : Fin 2) (j : Fin 3) {n : Dev nD} (hn : n = up j c) (O : CellTallies nD τ sig Unit)
    {sS sem : DmaSem sig} (hsS : sS = dS (snd g j)) (hsem : sem = dS (rcv g j))
    {hsc hsrc hdst ht}
    {k : PUnit → Prog (TpuEff nD τ sig (Elt F) Λ₀ .tc) α} {Q : α → sProp 𝕄} :
    iprop(records m K ∗ owing c (O + owe c g j) ∗ sP c 0 g (lent j) (tot m c g) ∗ (∃ w, sP (F := F) (up j c) j.succ g fullShare w)
        ∗ dutyTok ER (dc c (snd g j)) 0 0 ∗ dutyTok ER (dc (up j c) (rcv g j)) 0 0)
      ⊢ iprop(((owing c O ∗ cred (tallyAt (dc c (snd g j)) () (amt (snd g j)))) -∗ runs c (k ⟨⟩) Q)
          -∗ runs c (.op (.enqueueDma (sl 0 g) (.remote (n : Thread nD τ) (sl j.succ g) (.dma sS) hsc) (.dma sem) hsrc hdst ht) k) Q) := by
  subst hn hsS hsem
  unfold owing
  iintro ⟨#HR, ⟨%W, HO⟩, Hs, ⟨%w, Hd⟩, HtS, HtV⟩ Hk
  rw [amt_snd]
  unfold sP
  iapply (Rounds.wp_send_pointsTo 𝒱₀ ER (plan m) (c : Thread nD τ) none (κ₁ := K (c, (snd g j).succ)) (κ₂ := K (up j c, (rcv g j).succ))
    (r₁ := 0) (r₂ := 0) (d₁ := 0) (d₂ := 0) (q := lent j) (fs := (sl 0 g).view.rep (tot m c g)) (fd := (sl j.succ g).view.rep w)
    (by rw [duties_dma]; exact Finset.mem_singleton_self _) (by rw [duties_dma]; exact Finset.mem_singleton_self _)
    () () NS (amount_sl j.succ g (rcv g j)) (amount_snd m c g j) (amount_rcv m (up j c) g j) O rfl (W := W)
    (by rw [payload_dma, dmaPay_snd]; exact .rfl)
    (by rw [payload_dma, dmaPay_rcv]; unfold recvPay sP; rw [dn_up]
        exact pointsTo_rep_of_read (up j c : Thread nD τ) (sl j.succ g) ((sl j.succ g).view.write (Elt F) ((sl j.succ g).view.rep w) ((sl 0 g).view.read (Elt F) ((sl 0 g).view.rep (tot m c g))) Finset.univ) fullShare (tot m c g) (by rw [View.read_write_univ, View.read_rep]))) $$ [HO Hs Hd HtS HtV]
  · isplitr; · iapply (inv_dma m K c (snd g j)); iexact HR
    isplitr; · iapply (inv_dma m K (up j c) (rcv g j)); iexact HR
    isplitl [Hs]; · iexact Hs
    isplitl [Hd]; · iexact Hd
    isplitl [HO]; · iexact HO
    isplitl [HtS]; · iexact HtS
    isplitr; · iapply (reached_dma m K c (snd g j)); iexact HR
    isplitl [HtV]; · iexact HtV
    iapply (reached_dma m K (up j c) (rcv g j)); iexact HR
  iintro ⟨Hc, HO⟩
  iapply Hk
  isplitl [HO]; · iexists W; iexact HO
  iexact Hc

/-- The copy of column group `g` of the argument into fast memory. -/
theorem step_in (g : Fin 2) {sem : DmaSem sig} (hs : sem = dS (ins g)) {hsrc hdst ht}
    {k : PUnit → Prog (TpuEff nD τ sig (Elt F) Λ₀ .tc) α} {Q : α → sProp 𝕄} :
    iprop(records m K ∗ aP m c g ∗ (∃ f, (iH g).view.loc (c : Thread nD τ) ↦[(iH g).view.set]{fullShare} f) ∗ dutyTok ER (dc c (ins g)) 0 0)
      ⊢ iprop((cred (tallyAt (dc c (ins g)) () (amt (ins g))) -∗ runs c (k ⟨⟩) Q)
          -∗ runs c (.op (.enqueueDma (aH g) (.here (iH g)) (.dma sem) hsrc hdst ht) k) Q) := by
  subst hs
  iintro ⟨#HR, Ha, ⟨%f, Hi⟩, Ht⟩ Hk
  rw [amt_ins]
  unfold aP
  iapply (Rounds.wp_copy_pointsTo 𝒱₀ ER (plan m) (c : Thread nD τ) none (κ := K (c, (ins g).succ)) (r := 0) (d := 0) (q := fullShare) (fs := m ((c : Thread nD τ).loc main_arg0)) (fd := f)
    (by rw [duties_dma]; exact Finset.mem_singleton_self _) () NB (amount_iH g (ins g)) (amount_ins m c g)
    (by rw [payload_dma, dmaPay_ins]; unfold iP aP
        exact sep_mono_left (pointsTo_rep_of_read (c : Thread nD τ) (iH g) _ fullShare _ (by rw [View.read_write_univ]; rfl)))) $$ [Ha Hi Ht]
  · isplitr; · iapply (inv_dma m K c (ins g)); iexact HR
    isplitl [Ha]; · iexact Ha
    isplitl [Hi]; · iexact Hi
    isplitl [Ht]; · iexact Ht
    iapply (reached_dma m K c (ins g)); iexact HR
  iexact Hk

/-- The copy of the finished column group `g` out to the result. -/
theorem step_out (g : Fin 2) {sem : DmaSem sig} (hs : sem = dS (outs g)) {hsrc hdst ht}
    {k : PUnit → Prog (TpuEff nD τ sig (Elt F) Λ₀ .tc) α} {Q : α → sProp 𝕄} :
    iprop(records m K ∗ oP c g (res m c g) ∗ (∃ f, (yH g).view.loc (c : Thread nD τ) ↦[(yH g).view.set]{fullShare} f) ∗ dutyTok ER (dc c (outs g)) 0 0)
      ⊢ iprop((cred (tallyAt (dc c (outs g)) () (amt (outs g))) -∗ runs c (k ⟨⟩) Q)
          -∗ runs c (.op (.enqueueDma (oH g) (.here (yH g)) (.dma sem) hsrc hdst ht) k) Q) := by
  subst hs
  iintro ⟨#HR, Ha, ⟨%f, Hi⟩, Ht⟩ Hk
  rw [amt_outs]
  unfold oP
  iapply (Rounds.wp_copy_pointsTo 𝒱₀ ER (plan m) (c : Thread nD τ) none (κ := K (c, (outs g).succ)) (r := 0) (d := 0) (q := fullShare) (fs := (oH g).view.rep (res m c g)) (fd := f)
    (by rw [duties_dma]; exact Finset.mem_singleton_self _) () NB (amount_yH g (outs g)) (amount_outs m c g)
    (by rw [payload_dma, dmaPay_outs]; unfold yP oP
        exact sep_mono_left (pointsTo_rep_of_read (c : Thread nD τ) (yH g) _ fullShare _ (by rw [View.read_write_univ, View.read_rep])))) $$ [Ha Hi Ht]
  · isplitr; · iapply (inv_dma m K c (outs g)); iexact HR
    isplitl [Ha]; · iexact Ha
    isplitl [Hi]; · iexact Hi
    isplitl [Ht]; · iexact Ht
    iapply (reached_dma m K c (outs g)); iexact HR
  iexact Hk

/-! ## Loads and stores -/

/-- The load of column group `g` of the input buffer. -/
theorem step_load_in (g : Fin 2) {hl} {k : (S2048x512.Idx → Elt F .bf16) → Prog (TpuEff nD τ sig (Elt F) Λ₀ .tc) α} {Q : α → sProp 𝕄} :
    iP m c g ⊢ iprop((iP m c g -∗ runs c (k (xin m c g)) Q) -∗ runs c (.op (.load iM (halfR g).toLoadRect hl) k) Q) := by
  unfold iP
  iintro H Hk
  iapply (wp_load_rect 𝒱₀ (c : Thread nD τ) none Set.univ (m := iM) (r := halfR g) (subset_refl _)) $$ H
  iintro H
  ihave Hw := Hk $$ H
  rw [show (iM.access (halfR g)).read (Elt F) ((iH g).view.rep (xin m c g)) = xin m c g from View.read_rep _ _]
  iexact Hw

/-- A load of column group `g` of the output buffer, whose reading is not used. -/
theorem step_load_out (g : Fin 2) {hl} {k : (S2048x512.Idx → Elt F .bf16) → Prog (TpuEff nD τ sig (Elt F) Λ₀ .tc) α} {Q : α → sProp 𝕄} :
    iprop(∃ f, (oH g).view.loc (c : Thread nD τ) ↦[(oH g).view.set]{fullShare} f)
      ⊢ iprop((∀ x, (∃ f, (oH g).view.loc (c : Thread nD τ) ↦[(oH g).view.set]{fullShare} f) -∗ runs c (k x) Q)
        -∗ runs c (.op (.load oM (halfR g).toLoadRect hl) k) Q) := by
  iintro ⟨%f, H⟩ Hk
  iapply (wp_load_rect 𝒱₀ (c : Thread nD τ) none Set.univ (m := oM) (r := halfR g) (subset_refl _)) $$ H
  iintro H
  iapply Hk
  iexists f; iexact H

/-- The store of finished rows into column group `g` of the output buffer. -/
theorem step_store_out (g : Fin 2) (w : FVec F S2048x512 .bf16) {hx hm} {k : PUnit → Prog (TpuEff nD τ sig (Elt F) Λ₀ .tc) α} {Q : α → sProp 𝕄} :
    iprop(∃ f, (oH g).view.loc (c : Thread nD τ) ↦[(oH g).view.set]{fullShare} f)
      ⊢ iprop((oP c g w -∗ runs c (k ⟨⟩) Q) -∗ runs c (.op (.store oM (halfR g) w Finset.univ hx hm) k) Q) := by
  iintro ⟨%f, H⟩ Hk
  iapply (wp_store 𝒱₀ (c : Thread nD τ) none Set.univ (m := oM) (r := halfR g) (Mk := Finset.univ) (S := (oH g).view.set) (subset_refl _)) $$ H
  iintro H
  iapply Hk
  unfold oP
  iapply (pointsTo_rep_of_read (c : Thread nD τ) (oH g) ((oM.access (halfR g)).write (Elt F) f w Finset.univ) fullShare w (View.read_write_univ _ _))
  iexact H

theorem slot_set (k : Fin 4) (g : Fin 2) : (tM.access (slotR k g)).set = (sl k g).view.set := (View.set_reshape _ _).symm

/-- A memref's slice read through a squeeze: what the slice reads, recast. -/
theorem read_squeezed {sp : CoreSpace} {s s' : Shape} {e : EltTy} (M : Memref sig .tc sp s e) (r : Rect s) (hr : ∀ a, r.stride a = 1)
    (hq : r.shape.Squeezes s') (hc : r.shape.ShapeCasts s') (f : M.view.ty.Contents (Elt F)) (w : r.shape.Idx → Elt F e)
    (h : (M.access r).read (Elt F) f = w) : ((M.slice r hr).squeeze s' hq).view.read (Elt F) f = shapeCast s' w hc := by
  subst h; rfl

theorem slot_rep (k : Fin 4) (g : Fin 2) (q : PosShare TreeShare) (w : FVec F S1x1x1x512 .bf16) :
    ((sl k g).view.loc (c : Thread nD τ) ↦[(sl k g).view.set]{q} (tM.access (slotR k g)).rep (Val := Elt F) w : sProp 𝕄)
      = sP c k g q (shapeCast S1x512 w shapeCasts_S1x1x1x512_S1x512) := by
  unfold sP
  have h : (sl k g).view.read (Elt F) ((tM.access (slotR k g)).rep (Val := Elt F) w) = shapeCast S1x512 w shapeCasts_S1x1x1x512_S1x512 := by
    have h := View.read_rep (Val := Elt F) (tM.access (slotR k g)) w
    generalize (tM.access (slotR k g)).rep (Val := Elt F) w = f at h ⊢
    exact read_squeezed (F := F) (s' := S1x512) (e := .bf16) tM (slotR k g) (fun _ => rfl) squeezes_S1x1x1x512_S1x512
      shapeCasts_S1x1x1x512_S1x512 f w h
  rw [← h]
  exact pointsTo_rep (c : Thread nD τ) (sl k g) _ q

/-- The same, of slot `j`, group `g` of the buffer of block products. -/
theorem step_load_any (j : Fin 4) (g : Fin 2) {hl} {k : (S1x1x1x512.Idx → Elt F .bf16) → Prog (TpuEff nD τ sig (Elt F) Λ₀ .tc) α} {Q : α → sProp 𝕄} :
    iprop(∃ w, sP (F := F) c j g fullShare w)
      ⊢ iprop((∀ x, (∃ w, sP (F := F) c j g fullShare w) -∗ runs c (k x) Q)
        -∗ runs c (.op (.load tM (slotR j g).toLoadRect hl) k) Q) := by
  unfold sP
  iintro ⟨%w, H⟩ Hk
  iapply (wp_load_rect 𝒱₀ (c : Thread nD τ) none Set.univ (m := tM) (r := slotR j g) (subset_of_eq (slot_set j g))) $$ H
  iintro H
  iapply Hk
  iexists w; iexact H

/-- A load of a slot that holds a block product reads that product. -/
theorem step_load_slot (j : Fin 4) (g : Fin 2) (w : FVec F S1x1x1x512 .bf16) {hl} {k : (S1x1x1x512.Idx → Elt F .bf16) → Prog (TpuEff nD τ sig (Elt F) Λ₀ .tc) α} {Q : α → sProp 𝕄} :
    sP c j g fullShare (shapeCast S1x512 w shapeCasts_S1x1x1x512_S1x512)
      ⊢ iprop((sP c j g fullShare (shapeCast S1x512 w shapeCasts_S1x1x1x512_S1x512) -∗ runs c (k w) Q)
        -∗ runs c (.op (.load tM (slotR j g).toLoadRect hl) k) Q) := by
  rw [← slot_rep]
  iintro H Hk
  iapply (wp_load_rect 𝒱₀ (c : Thread nD τ) none Set.univ (m := tM) (r := slotR j g) (subset_of_eq (slot_set j g))) $$ H
  iintro H
  ihave Hw := Hk $$ H
  rw [show (tM.access (slotR j g)).read (Elt F) ((tM.access (slotR j g)).rep (Val := Elt F) w) = w from View.read_rep _ _]
  iexact Hw

/-- A load of the slot where the product of the device `j + 1` places before has landed. -/
theorem step_load_recv (j : Fin 3) (g : Fin 2) {hl} {k : (S1x1x1x512.Idx → Elt F .bf16) → Prog (TpuEff nD τ sig (Elt F) Λ₀ .tc) α} {Q : α → sProp 𝕄} :
    recvPay m c g j ⊢ iprop((recvPay m c g j -∗ runs c (k (got m c j g)) Q)
        -∗ runs c (.op (.load tM (slotR j.succ g).toLoadRect hl) k) Q) :=
  step_load_slot c j.succ g (got m c j g)

/-- The end of a program. -/
theorem runs_ret (a : α) (Q : α → sProp 𝕄) : Q a ⊢ runs c (Prog.ret a) Q := by
  unfold runs; rw [wp_ret]; iintro H; imodintro; iexact H

/-- The store of this device's block product in slot 0. -/
theorem step_store_slot (g : Fin 2) (w : FVec F S1x1x1x512 .bf16) {hx hm} {k : PUnit → Prog (TpuEff nD τ sig (Elt F) Λ₀ .tc) α} {Q : α → sProp 𝕄} :
    iprop(∃ w, sP (F := F) c 0 g fullShare w)
      ⊢ iprop((sP c 0 g fullShare (shapeCast S1x512 w shapeCasts_S1x1x1x512_S1x512) -∗ runs c (k ⟨⟩) Q)
        -∗ runs c (.op (.store tM (slotR 0 g) w Finset.univ hx hm) k) Q) := by
  unfold sP
  iintro ⟨%w0, H⟩ Hk
  iapply (wp_store 𝒱₀ (c : Thread nD τ) none Set.univ (m := tM) (r := slotR 0 g) (Mk := Finset.univ) (S := (sl 0 g).view.set) (subset_of_eq (slot_set 0 g))) $$ H
  iintro H
  iapply Hk
  have h := View.read_write_univ (Val := Elt F) (v := tM.access (slotR 0 g)) ((sl 0 g).view.rep w0) w
  generalize (tM.access (slotR 0 g)).write (Elt F) ((sl 0 g).view.rep w0) w Finset.univ = f at h ⊢
  iapply (pointsTo_rep_of_read (c : Thread nD τ) (sl 0 g) f fullShare (shapeCast S1x512 w shapeCasts_S1x1x1x512_S1x512)
    (read_squeezed (F := F) (s' := S1x512) (e := .bf16) tM (slotR 0 g) (fun _ => rfl) squeezes_S1x1x1x512_S1x512
      shapeCasts_S1x1x1x512_S1x512 f w h))
  iexact H

end Cert.Exchange

end
-- ==== Proof.Body.lean ====
/-
# The kernel's body, part by part

The body is printed in seventeen parts. Each theorem here takes a device through one of them: what it holds before,
and what it holds after. `body_run` puts them together.
-/
module

public import proofs.«01_k».proof.Proof.Steps

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- The token of transfer semaphore `i`'s one duty on device `d`. -/
abbrev tk (d : Dev nD) (i : Fin 16) : sProp 𝕄 := dutyTok ER (dc d i) 0 0
/-- The token of the barrier's duty `j` on device `d`. -/
abbrev bk (d : Dev nD) (j : Fin 3) : sProp 𝕄 := dutyTok ER (bar d) 0 j
/-- Device `c` stands at the start of transfer semaphore `i`'s round. -/
abbrev pt (i : Fin 16) : sProp 𝕄 := atPos ER (dc c i) 0 ∅ 0
/-- The credit for waiting on transfer semaphore `i`. -/
abbrev cr (i : Fin 16) : sProp 𝕄 := cred (tallyAt (dc c i) () (amt i))
/-- Transfer semaphore `i` reads zero and is out of use. -/
abbrev zr (i : Fin 16) : sProp 𝕄 := semVal (dc c i) 0

abbrev iAny (g : Fin 2) : sProp 𝕄 := iprop(∃ f, (iH g).view.loc (c : Thread nD τ) ↦[(iH g).view.set]{fullShare} f)
abbrev oAny (g : Fin 2) : sProp 𝕄 := iprop(∃ f, (oH g).view.loc (c : Thread nD τ) ↦[(oH g).view.set]{fullShare} f)
abbrev yAny (g : Fin 2) : sProp 𝕄 := iprop(∃ f, (yH g).view.loc (c : Thread nD τ) ↦[(yH g).view.set]{fullShare} f)
/-- Slot `k`, group `g` on device `d`, holding anything. -/
abbrev sAny (d : Dev nD) (k : Fin 4) (g : Fin 2) : sProp 𝕄 := iprop(∃ w, sP (F := F) d k g fullShare w)

/-- The first two signals. -/
theorem part1 {Kt : _ → sProp 𝕄} :
    iprop((records m K ∗ levAts L lv) ∗ owing c (O₀ c) ∗ bk (up 0 c) 0 ∗ bk (up 1 c) 1 ∗ openP c 2 ∗ openP c 1 ∗ (∀ a b e, (owing c (B1 c)) -∗ Kt ⟨c, pos c, SemArray.scalar (sig.barrier 0 rfl), a, b, e⟩))
      ⊢ runs c (k0_part1 aM (Memref.isWhole_whole _) yM (Memref.isWhole_whole _) iM (Memref.isWhole_whole _) oM (Memref.isWhole_whole _) tM (Memref.isWhole_whole _) cc0_scratch3 cc0_scratch4 cc0_scratch5 cc0_scratch6 ) Kt := by
  simp only [k0_part1_eq_skeleton]; unfold k0_part1_skel
  simp only [semSignalWord, semWaitWord, Prog.lift, Prog.bind_op, Prog.bind_ret, Prog.pure_eq_ret, wp_deviceId]
  iintro ⟨⟨#HR, #Hlev⟩, HO, Ht0, Ht1, H2, H1, Hk⟩
  iapply (step_signal m K c 0 (dev1_eq c) (B2 c)) $$ [HO Ht0 H2]
  · isplitr; · iexact HR
    isplitl [HO]; · iexact HO
    isplitl [Ht0]; · iexact Ht0
    iexact H2
  iintro HO
  iapply (step_signal m K c 1 (dev2_eq c) (B1 c)) $$ [HO Ht1 H1]
  · isplitr; · iexact HR
    isplitl [HO]; · iexact HO
    isplitl [Ht1]; · iexact Ht1
    iexact H1
  iintro HO
  iapply (runs_ret c)
  iapply Hk
  iexact HO

/-- The third signal, both copies in started, the first waited for and loaded. -/
theorem part2 {a b e} {Kt : _ → sProp 𝕄} :
    iprop((records m K ∗ levAts L lv) ∗ owing c (B1 c) ∗ bk (up 2 c) 2 ∗ openP c 0 ∗ aP m c 0 ∗ aP m c 1 ∗ iAny c 0 ∗ iAny c 1 ∗ tk c 0 ∗ tk c 1 ∗ pt c 0 ∗ ((owing c (R6 c) ∗ iP m c 0 ∗ aP m c 0 ∗ cr c 1 ∗ zr c 0) -∗ Kt ⟨k0_pay1 (xin m c 0), k0_pay2, k0_pay3 (xin m c 0)⟩))
      ⊢ runs c (k0_part2 aM (Memref.isWhole_whole _) yM (Memref.isWhole_whole _) iM (Memref.isWhole_whole _) oM (Memref.isWhole_whole _) tM (Memref.isWhole_whole _) cc0_scratch3 cc0_scratch4 cc0_scratch5 cc0_scratch6 c (SemArray.scalar (sig.barrier 0 rfl)) a b e) Kt := by
  simp only [k0_part2_eq_skeleton]; unfold k0_part2_skel
  simp only [semSignalWord, semWaitWord, Prog.lift, Prog.bind_op, Prog.bind_ret, Prog.pure_eq_ret, wp_deviceId]
  iintro ⟨⟨#HR, #Hlev⟩, HO, Ht, H0, Ha0, Ha1, Hi0, Hi1, Hk0, Hk1, Hp0, Hk⟩
  iapply (step_signal m K c 2 (dev3_eq c) (R6 c)) $$ [HO Ht H0]
  · isplitr; · iexact HR
    isplitl [HO]; · iexact HO
    isplitl [Ht]; · iexact Ht
    iexact H0
  iintro HO
  iapply (step_in m K c 0 sem_in0) $$ [Ha0 Hi0 Hk0]
  · isplitr; · iexact HR
    isplitl [Ha0]; · iexact Ha0
    isplitl [Hi0]; · iexact Hi0
    iexact Hk0
  iintro Hc0
  iapply (step_in m K c 1 sem_in1) $$ [Ha1 Hi1 Hk1]
  · isplitr; · iexact HR
    isplitl [Ha1]; · iexact Ha1
    isplitl [Hi1]; · iexact Hi1
    iexact Hk1
  iintro Hc1
  iapply (step_wait m K c 0 sem_in0.symm (R6 c) (mayWait_low c (.dma (dS 0)) (Nat.zero_le 1) (onlyRcv_R6 c)) (credit_iH 0)) $$ [HO Hc0 Hp0]
  · isplitr; · iexact HR
    isplitr; · iexact Hlev
    isplitl [HO]; · iexact HO
    isplitl [Hc0]; · iexact Hc0
    iexact Hp0
  iintro ⟨HO, Hz0, Hpay⟩
  ihave Hpay := (Entails.of_eq (dmaPay_ins m c 0)) $$ Hpay
  icases Hpay with ⟨Hi0, Ha0⟩
  iapply (step_load_in m c 0) $$ Hi0
  iintro Hi0
  iapply (runs_ret c)
  iapply Hk
  isplitl [HO]; · iexact HO
  isplitl [Hi0]; · iexact Hi0
  isplitl [Ha0]; · iexact Ha0
  isplitl [Hc1]; · iexact Hc1
  iexact Hz0

/-- The first block product stored, and the barrier passed. -/
theorem part3 {v2} {Kt : _ → sProp 𝕄} :
    iprop((records m K ∗ levAts L lv) ∗ sAny c 0 0 ∗ owing c (R6 c) ∗ cred (tallyAt (bar c) () 3) ∗ atPos ER (bar c) 0 ∅ 0 ∗ (∀ a b e, (sP c 0 0 fullShare (tot m c 0) ∗ owing c (R6 c) ∗ semVal (bar c) 0 ∗ openP (F := F) (up 0 c) 0 ∗ openP (F := F) (up 1 c) 1 ∗ openP (F := F) (up 2 c) 2) -∗ Kt ⟨acc0 m c, a, b, e⟩))
      ⊢ runs c (k0_part3 aM (Memref.isWhole_whole _) yM (Memref.isWhole_whole _) iM (Memref.isWhole_whole _) oM (Memref.isWhole_whole _) tM (Memref.isWhole_whole _) cc0_scratch3 cc0_scratch4 cc0_scratch5 cc0_scratch6 v2 (SemArray.scalar (sig.barrier 0 rfl)) (k0_pay1 (xin m c 0)) k0_pay2 (k0_pay3 (xin m c 0))) Kt := by
  simp only [k0_part3_eq_skeleton]; unfold k0_part3_skel
  simp only [semSignalWord, semWaitWord, Prog.lift, Prog.bind_op, Prog.bind_ret, Prog.pure_eq_ret, wp_deviceId]
  iintro ⟨⟨#HR, #Hlev⟩, Hs, HO, Hc, Hp, Hk⟩
  iapply (step_load_any c 0 0) $$ Hs
  iintro %x Hs
  iapply (step_store_slot c 0 (tot4 m c 0)) $$ Hs
  iintro Hs
  iapply (step_bar m K c rfl (R6 c) (onlyRcv_R6 c)) $$ [HO Hc Hp]
  · isplitr; · iexact HR
    isplitr; · iexact Hlev
    isplitl [HO]; · iexact HO
    isplitl [Hc]; · iexact Hc
    iexact Hp
  iintro ⟨HO, Hz, H0, H1, H2⟩
  iapply (runs_ret c)
  iapply Hk
  isplitl [Hs]; · iexact Hs
  isplitl [HO]; · iexact HO
  isplitl [Hz]; · iexact Hz
  isplitl [H0]; · iexact H0
  isplitl [H1]; · iexact H1
  iexact H2

/-- The first block product sent one place on. -/
theorem part4 {v2 v102 a b} {Kt : _ → sProp 𝕄} :
    iprop((records m K ∗ levAts L lv) ∗ owing c (R6 c) ∗ sP c 0 0 (lent 0) (tot m c 0) ∗ sAny (up 0 c) 1 0 ∗ tk c (snd 0 0) ∗ tk (up 0 c) (rcv 0 0) ∗ (∀ r, (owing c (R5 c) ∗ cr c (snd 0 0)) -∗ Kt r))
      ⊢ runs c (k0_part4 aM (Memref.isWhole_whole _) yM (Memref.isWhole_whole _) iM (Memref.isWhole_whole _) oM (Memref.isWhole_whole _) tM (Memref.isWhole_whole _) cc0_scratch3 cc0_scratch4 cc0_scratch5 cc0_scratch6 c v2 v102 a b) Kt := by
  simp only [k0_part4_eq_skeleton]; unfold k0_part4_skel
  simp only [semSignalWord, semWaitWord, Prog.lift, Prog.bind_op, Prog.bind_ret, Prog.pure_eq_ret, wp_deviceId]
  iintro ⟨⟨#HR, #Hlev⟩, HO, Hs0, Hd0, Ht0, Hv0, Hk⟩
  iapply (step_send m K c 0 0 (dev4_eq c) (R5 c) sem_snd00 sem_rcv00) $$ [HO Hs0 Hd0 Ht0 Hv0]
  · isplitr; · iexact HR
    isplitl [HO]; · iexact HO
    isplitl [Hs0]; · iexact Hs0
    isplitl [Hd0]; · iexact Hd0
    isplitl [Ht0]; · iexact Ht0
    iexact Hv0
  iintro ⟨HO, Hc0⟩
  iapply (runs_ret c)
  iapply Hk
  isplitl [HO]; · iexact HO
  iexact Hc0

/-- The first block product sent two places on. -/
theorem part5 {v2 v133} {Kt : _ → sProp 𝕄} :
    iprop((records m K ∗ levAts L lv) ∗ owing c (R5 c) ∗ sP c 0 0 (lent 1) (tot m c 0) ∗ sAny (up 1 c) 2 0 ∗ tk c (snd 0 1) ∗ tk (up 1 c) (rcv 0 1) ∗ (∀ r, (owing c (R4 c) ∗ cr c (snd 0 1)) -∗ Kt r))
      ⊢ runs c (k0_part5 aM (Memref.isWhole_whole _) yM (Memref.isWhole_whole _) iM (Memref.isWhole_whole _) oM (Memref.isWhole_whole _) tM (Memref.isWhole_whole _) cc0_scratch3 cc0_scratch4 cc0_scratch5 cc0_scratch6 c v2 v133) Kt := by
  simp only [k0_part5_eq_skeleton]; unfold k0_part5_skel
  simp only [semSignalWord, semWaitWord, Prog.lift, Prog.bind_op, Prog.bind_ret, Prog.pure_eq_ret, wp_deviceId]
  iintro ⟨⟨#HR, #Hlev⟩, HO, Hs1, Hd1, Ht1, Hv1, Hk⟩
  iapply (step_send m K c 0 1 (dev5_eq c) (R4 c) sem_snd01 sem_rcv01) $$ [HO Hs1 Hd1 Ht1 Hv1]
  · isplitr; · iexact HR
    isplitl [HO]; · iexact HO
    isplitl [Hs1]; · iexact Hs1
    isplitl [Hd1]; · iexact Hd1
    isplitl [Ht1]; · iexact Ht1
    iexact Hv1
  iintro ⟨HO, Hc1⟩
  iapply (runs_ret c)
  iapply Hk
  isplitl [HO]; · iexact HO
  iexact Hc1

/-- The first block product sent three places on; the second copy in waited for and loaded. -/
theorem part6 {v91} {Kt : _ → sProp 𝕄} :
    iprop((records m K ∗ levAts L lv) ∗ owing c (R4 c) ∗ sP c 0 0 (lent 2) (tot m c 0) ∗ sAny (up 2 c) 3 0 ∗ tk c (snd 0 2) ∗ tk (up 2 c) (rcv 0 2) ∗ cr c 1 ∗ pt c 1 ∗ ((owing c (R3 c) ∗ cr c (snd 0 2) ∗ iP m c 1 ∗ aP m c 1 ∗ zr c 1) -∗ Kt ⟨k0_pay6 v91, k0_pay7 v91, k0_pay8 (xin m c 1), k0_pay9 (xin m c 1)⟩))
      ⊢ runs c (k0_part6 aM (Memref.isWhole_whole _) yM (Memref.isWhole_whole _) iM (Memref.isWhole_whole _) oM (Memref.isWhole_whole _) tM (Memref.isWhole_whole _) cc0_scratch3 cc0_scratch4 cc0_scratch5 cc0_scratch6 c v91) Kt := by
  simp only [k0_part6_eq_skeleton]; unfold k0_part6_skel
  simp only [semSignalWord, semWaitWord, Prog.lift, Prog.bind_op, Prog.bind_ret, Prog.pure_eq_ret, wp_deviceId]
  iintro ⟨⟨#HR, #Hlev⟩, HO, Hs2, Hd2, Ht2, Hv2, Hci, Hp, Hk⟩
  iapply (step_send m K c 0 2 (dev6_eq c) (R3 c) sem_snd02 sem_rcv02) $$ [HO Hs2 Hd2 Ht2 Hv2]
  · isplitr; · iexact HR
    isplitl [HO]; · iexact HO
    isplitl [Hs2]; · iexact Hs2
    isplitl [Hd2]; · iexact Hd2
    isplitl [Ht2]; · iexact Ht2
    iexact Hv2
  iintro ⟨HO, Hc2⟩
  iapply (step_wait m K c 1 sem_in1.symm (R3 c) (mayWait_low c (.dma (dS 1)) (Nat.zero_le 1) (onlyRcv_R3 c)) (credit_iH 1)) $$ [HO Hci Hp]
  · isplitr; · iexact HR
    isplitr; · iexact Hlev
    isplitl [HO]; · iexact HO
    isplitl [Hci]; · iexact Hci
    iexact Hp
  iintro ⟨HO, Hz, Hpay⟩
  ihave Hpay := (Entails.of_eq (dmaPay_ins m c 1)) $$ Hpay
  icases Hpay with ⟨Hi, Ha⟩
  iapply (step_load_in m c 1) $$ Hi
  iintro Hi
  iapply (runs_ret c)
  iapply Hk
  isplitl [HO]; · iexact HO
  isplitl [Hc2]; · iexact Hc2
  isplitl [Hi]; · iexact Hi
  isplitl [Ha]; · iexact Ha
  iexact Hz

/-- The second block product stored. -/
theorem part7 {v2} {Kt : _ → sProp 𝕄} :
    iprop((records m K ∗ levAts L lv) ∗ sAny c 0 1 ∗ (∀ a, (sP c 0 1 fullShare (tot m c 1)) -∗ Kt ⟨acc1 m c, a⟩))
      ⊢ runs c (k0_part7 aM (Memref.isWhole_whole _) yM (Memref.isWhole_whole _) iM (Memref.isWhole_whole _) oM (Memref.isWhole_whole _) tM (Memref.isWhole_whole _) cc0_scratch3 cc0_scratch4 cc0_scratch5 cc0_scratch6 v2 (k0_pay8 (xin m c 1)) (k0_pay9 (xin m c 1))) Kt := by
  simp only [k0_part7_eq_skeleton]; unfold k0_part7_skel
  simp only [semSignalWord, semWaitWord, Prog.lift, Prog.bind_op, Prog.bind_ret, Prog.pure_eq_ret, wp_deviceId]
  iintro ⟨⟨#HR, #Hlev⟩, Hs, Hk⟩
  iapply (step_load_any c 0 1) $$ Hs
  iintro %x Hs
  iapply (step_store_slot c 1 (tot4 m c 1)) $$ Hs
  iintro Hs
  iapply (runs_ret c)
  iapply Hk
  iexact Hs

/-- The second block product sent one and two places on. -/
theorem part8 {v2} {Kt : _ → sProp 𝕄} :
    iprop((records m K ∗ levAts L lv) ∗ owing c (R3 c) ∗ sP c 0 1 (lent 0) (tot m c 1) ∗ sAny (up 0 c) 1 1 ∗ tk c (snd 1 0) ∗ tk (up 0 c) (rcv 1 0) ∗ sP c 0 1 (lent 1) (tot m c 1) ∗ sAny (up 1 c) 2 1 ∗ tk c (snd 1 1) ∗ tk (up 1 c) (rcv 1 1) ∗ (∀ r, (owing c (R1 c) ∗ cr c (snd 1 0) ∗ cr c (snd 1 1)) -∗ Kt r))
      ⊢ runs c (k0_part8 aM (Memref.isWhole_whole _) yM (Memref.isWhole_whole _) iM (Memref.isWhole_whole _) oM (Memref.isWhole_whole _) tM (Memref.isWhole_whole _) cc0_scratch3 cc0_scratch4 cc0_scratch5 cc0_scratch6 c v2) Kt := by
  simp only [k0_part8_eq_skeleton]; unfold k0_part8_skel
  simp only [semSignalWord, semWaitWord, Prog.lift, Prog.bind_op, Prog.bind_ret, Prog.pure_eq_ret, wp_deviceId]
  iintro ⟨⟨#HR, #Hlev⟩, HO, Hs0, Hd0, Ht0, Hv0, Hs1, Hd1, Ht1, Hv1, Hk⟩
  iapply (step_send m K c 1 0 (dev7_eq c) (R2 c) sem_snd10 sem_rcv10) $$ [HO Hs0 Hd0 Ht0 Hv0]
  · isplitr; · iexact HR
    isplitl [HO]; · iexact HO
    isplitl [Hs0]; · iexact Hs0
    isplitl [Hd0]; · iexact Hd0
    isplitl [Ht0]; · iexact Ht0
    iexact Hv0
  iintro ⟨HO, Hc0⟩
  iapply (step_send m K c 1 1 (dev8_eq c) (R1 c) sem_snd11 sem_rcv11) $$ [HO Hs1 Hd1 Ht1 Hv1]
  · isplitr; · iexact HR
    isplitl [HO]; · iexact HO
    isplitl [Hs1]; · iexact Hs1
    isplitl [Hd1]; · iexact Hd1
    isplitl [Ht1]; · iexact Ht1
    iexact Hv1
  iintro ⟨HO, Hc1⟩
  iapply (runs_ret c)
  iapply Hk
  isplitl [HO]; · iexact HO
  isplitl [Hc0]; · iexact Hc0
  iexact Hc1

/-- The second block product sent three places on. -/
theorem part9 {v112 v267 v268} {Kt : _ → sProp 𝕄} :
    iprop((records m K ∗ levAts L lv) ∗ owing c (R1 c) ∗ sP c 0 1 (lent 2) (tot m c 1) ∗ sAny (up 2 c) 3 1 ∗ tk c (snd 1 2) ∗ tk (up 2 c) (rcv 1 2) ∗ (∀ a, (owing c 0 ∗ cr c (snd 1 2)) -∗ Kt ⟨a, k0_pay12 (acc1 m c), k0_pay13 (acc1 m c)⟩))
      ⊢ runs c (k0_part9 aM (Memref.isWhole_whole _) yM (Memref.isWhole_whole _) iM (Memref.isWhole_whole _) oM (Memref.isWhole_whole _) tM (Memref.isWhole_whole _) cc0_scratch3 cc0_scratch4 cc0_scratch5 cc0_scratch6 c v112 (acc1 m c) v267 v268) Kt := by
  simp only [k0_part9_eq_skeleton]; unfold k0_part9_skel
  simp only [semSignalWord, semWaitWord, Prog.lift, Prog.bind_op, Prog.bind_ret, Prog.pure_eq_ret, wp_deviceId]
  iintro ⟨⟨#HR, #Hlev⟩, HO, Hs2, Hd2, Ht2, Hv2, Hk⟩
  iapply (step_send m K c 1 2 (dev9_eq c) (0) sem_snd12 sem_rcv12) $$ [HO Hs2 Hd2 Ht2 Hv2]
  · isplitr; · iexact HR
    isplitl [HO]; · iexact HO
    isplitl [Hs2]; · iexact Hs2
    isplitl [Hd2]; · iexact Hd2
    isplitl [Ht2]; · iexact Ht2
    iexact Hv2
  iintro ⟨HO, Hc2⟩
  iapply (runs_ret c)
  iapply Hk
  isplitl [HO]; · iexact HO
  iexact Hc2

/-- The three products of column group 0 waited for. -/
theorem part10 {v133 v154} {Kt : _ → sProp 𝕄} :
    iprop((records m K ∗ levAts L lv) ∗ owing c 0 ∗ cr c (rcv 0 0) ∗ pt c (rcv 0 0) ∗ cr c (rcv 0 1) ∗ pt c (rcv 0 1) ∗ cr c (rcv 0 2) ∗ pt c (rcv 0 2) ∗ ((owing c 0 ∗ zr c (rcv 0 0) ∗ zr c (rcv 0 1) ∗ zr c (rcv 0 2) ∗ recvPay m c 0 0 ∗ recvPay m c 0 1 ∗ recvPay m c 0 2) -∗ Kt ⟨k0_pay14, Scalar.subi (pos c) 1#32, 4#32, Scalar.cmpi .eq 4#32 0#32⟩))
      ⊢ runs c (k0_part10 aM (Memref.isWhole_whole _) yM (Memref.isWhole_whole _) iM (Memref.isWhole_whole _) oM (Memref.isWhole_whole _) tM (Memref.isWhole_whole _) cc0_scratch3 cc0_scratch4 cc0_scratch5 cc0_scratch6 (pos c) v133 v154) Kt := by
  simp only [k0_part10_eq_skeleton]; unfold k0_part10_skel
  simp only [semSignalWord, semWaitWord, Prog.lift, Prog.bind_op, Prog.bind_ret, Prog.pure_eq_ret, wp_deviceId]
  iintro ⟨⟨#HR, #Hlev⟩, HO, Hc0, Hp0, Hc1, Hp1, Hc2, Hp2, Hk⟩
  iapply (step_wait m K c (rcv 0 0) sem_rcv00.symm 0 (mayWait_free c _) (credit_sl 1 0)) $$ [HO Hc0 Hp0]
  · isplitr; · iexact HR
    isplitr; · iexact Hlev
    isplitl [HO]; · iexact HO
    isplitl [Hc0]; · iexact Hc0
    iexact Hp0
  iintro ⟨HO, Hz0, Hr0⟩
  ihave Hr0 := (Entails.of_eq (dmaPay_rcv m c 0 0)) $$ Hr0
  iapply (step_wait m K c (rcv 0 1) sem_rcv01.symm 0 (mayWait_free c _) (credit_sl 2 0)) $$ [HO Hc1 Hp1]
  · isplitr; · iexact HR
    isplitr; · iexact Hlev
    isplitl [HO]; · iexact HO
    isplitl [Hc1]; · iexact Hc1
    iexact Hp1
  iintro ⟨HO, Hz1, Hr1⟩
  ihave Hr1 := (Entails.of_eq (dmaPay_rcv m c 0 1)) $$ Hr1
  iapply (step_wait m K c (rcv 0 2) sem_rcv02.symm 0 (mayWait_free c _) (credit_sl 3 0)) $$ [HO Hc2 Hp2]
  · isplitr; · iexact HR
    isplitr; · iexact Hlev
    isplitl [HO]; · iexact HO
    isplitl [Hc2]; · iexact Hc2
    iexact Hp2
  iintro ⟨HO, Hz2, Hr2⟩
  ihave Hr2 := (Entails.of_eq (dmaPay_rcv m c 0 2)) $$ Hr2
  iapply (runs_ret c)
  iapply Hk
  isplitl [HO]; · iexact HO
  isplitl [Hz0]; · iexact Hz0
  isplitl [Hz1]; · iexact Hz1
  isplitl [Hz2]; · iexact Hz2
  isplitl [Hr0]; · iexact Hr0
  isplitl [Hr1]; · iexact Hr1
  iexact Hr2

/-- Two of the products of column group 0 loaded. -/
theorem part11 {Kt : _ → sProp 𝕄} :
    iprop((records m K ∗ levAts L lv) ∗ recvPay m c 0 0 ∗ recvPay m c 0 1 ∗ ((recvPay m c 0 0 ∗ recvPay m c 0 1) -∗ Kt ⟨k0_pay15 (pos c) k0_pay14 (Scalar.subi (pos c) 1#32) 4#32 (Scalar.cmpi .eq 4#32 0#32) (got m c 0 0) (got m c 1 0), Scalar.subi (pos c) 3#32, 4#32, Scalar.cmpi .eq 4#32 0#32⟩))
      ⊢ runs c (k0_part11 aM (Memref.isWhole_whole _) yM (Memref.isWhole_whole _) iM (Memref.isWhole_whole _) oM (Memref.isWhole_whole _) tM (Memref.isWhole_whole _) cc0_scratch3 cc0_scratch4 cc0_scratch5 cc0_scratch6 (pos c) k0_pay14 (Scalar.subi (pos c) 1#32) 4#32 (Scalar.cmpi .eq 4#32 0#32)) Kt := by
  simp only [k0_part11_eq_skeleton]; unfold k0_part11_skel
  simp only [semSignalWord, semWaitWord, Prog.lift, Prog.bind_op, Prog.bind_ret, Prog.pure_eq_ret, wp_deviceId]
  iintro ⟨⟨#HR, #Hlev⟩, H0, H1, Hk⟩
  iapply (step_load_recv m c 0 0) $$ H0
  iintro H0
  iapply (step_load_recv m c 1 0) $$ H1
  iintro H1
  iapply (runs_ret c)
  iapply Hk
  isplitl [H0]; · iexact H0
  iexact H1

/-- The third loaded, the finished rows of column group 0 stored and their copy out started. -/
theorem part12 {v233} {Kt : _ → sProp 𝕄} :
    iprop((records m K ∗ levAts L lv) ∗ recvPay m c 0 2 ∗ oAny c 0 ∗ yAny c 0 ∗ tk c (outs 0) ∗ ((recvPay m c 0 2 ∗ cr c (outs 0)) -∗ Kt ⟨⟩))
      ⊢ runs c (k0_part12 aM (Memref.isWhole_whole _) yM (Memref.isWhole_whole _) iM (Memref.isWhole_whole _) oM (Memref.isWhole_whole _) tM (Memref.isWhole_whole _) cc0_scratch3 cc0_scratch4 cc0_scratch5 cc0_scratch6 (pos c) (k0_pay6 (acc0 m c)) (k0_pay7 (acc0 m c)) v233 (k0_pay15 (pos c) k0_pay14 (Scalar.subi (pos c) 1#32) 4#32 (Scalar.cmpi .eq 4#32 0#32) (got m c 0 0) (got m c 1 0)) (Scalar.subi (pos c) 3#32) 4#32 (Scalar.cmpi .eq 4#32 0#32)) Kt := by
  simp only [k0_part12_eq_skeleton]; unfold k0_part12_skel
  simp only [semSignalWord, semWaitWord, Prog.lift, Prog.bind_op, Prog.bind_ret, Prog.pure_eq_ret, wp_deviceId]
  iintro ⟨⟨#HR, #Hlev⟩, H2, Ho, Hy, Ht, Hk⟩
  iapply (step_load_recv m c 2 0) $$ H2
  iintro H2
  iapply (step_load_out c 0) $$ Ho
  iintro %x Ho
  iapply (step_store_out c 0 (res m c 0)) $$ Ho
  iintro Ho
  iapply (step_out m K c 0 sem_out0) $$ [Ho Hy Ht]
  · isplitr; · iexact HR
    isplitl [Ho]; · iexact Ho
    isplitl [Hy]; · iexact Hy
    iexact Ht
  iintro Hc
  iapply (runs_ret c)
  iapply Hk
  isplitl [H2]; · iexact H2
  iexact Hc

/-- The three products of column group 1 waited for. -/
theorem part13 {v133 v154} {Kt : _ → sProp 𝕄} :
    iprop((records m K ∗ levAts L lv) ∗ owing c 0 ∗ cr c (rcv 1 0) ∗ pt c (rcv 1 0) ∗ cr c (rcv 1 1) ∗ pt c (rcv 1 1) ∗ cr c (rcv 1 2) ∗ pt c (rcv 1 2) ∗ ((owing c 0 ∗ zr c (rcv 1 0) ∗ zr c (rcv 1 1) ∗ zr c (rcv 1 2) ∗ recvPay m c 1 0 ∗ recvPay m c 1 1 ∗ recvPay m c 1 2) -∗ Kt ⟨k0_pay17, Scalar.subi (pos c) 1#32, 4#32, Scalar.cmpi .eq 4#32 0#32⟩))
      ⊢ runs c (k0_part13 aM (Memref.isWhole_whole _) yM (Memref.isWhole_whole _) iM (Memref.isWhole_whole _) oM (Memref.isWhole_whole _) tM (Memref.isWhole_whole _) cc0_scratch3 cc0_scratch4 cc0_scratch5 cc0_scratch6 (pos c) v133 v154) Kt := by
  simp only [k0_part13_eq_skeleton]; unfold k0_part13_skel
  simp only [semSignalWord, semWaitWord, Prog.lift, Prog.bind_op, Prog.bind_ret, Prog.pure_eq_ret, wp_deviceId]
  iintro ⟨⟨#HR, #Hlev⟩, HO, Hc0, Hp0, Hc1, Hp1, Hc2, Hp2, Hk⟩
  iapply (step_wait m K c (rcv 1 0) sem_rcv10.symm 0 (mayWait_free c _) (credit_sl 1 1)) $$ [HO Hc0 Hp0]
  · isplitr; · iexact HR
    isplitr; · iexact Hlev
    isplitl [HO]; · iexact HO
    isplitl [Hc0]; · iexact Hc0
    iexact Hp0
  iintro ⟨HO, Hz0, Hr0⟩
  ihave Hr0 := (Entails.of_eq (dmaPay_rcv m c 1 0)) $$ Hr0
  iapply (step_wait m K c (rcv 1 1) sem_rcv11.symm 0 (mayWait_free c _) (credit_sl 2 1)) $$ [HO Hc1 Hp1]
  · isplitr; · iexact HR
    isplitr; · iexact Hlev
    isplitl [HO]; · iexact HO
    isplitl [Hc1]; · iexact Hc1
    iexact Hp1
  iintro ⟨HO, Hz1, Hr1⟩
  ihave Hr1 := (Entails.of_eq (dmaPay_rcv m c 1 1)) $$ Hr1
  iapply (step_wait m K c (rcv 1 2) sem_rcv12.symm 0 (mayWait_free c _) (credit_sl 3 1)) $$ [HO Hc2 Hp2]
  · isplitr; · iexact HR
    isplitr; · iexact Hlev
    isplitl [HO]; · iexact HO
    isplitl [Hc2]; · iexact Hc2
    iexact Hp2
  iintro ⟨HO, Hz2, Hr2⟩
  ihave Hr2 := (Entails.of_eq (dmaPay_rcv m c 1 2)) $$ Hr2
  iapply (runs_ret c)
  iapply Hk
  isplitl [HO]; · iexact HO
  isplitl [Hz0]; · iexact Hz0
  isplitl [Hz1]; · iexact Hz1
  isplitl [Hz2]; · iexact Hz2
  isplitl [Hr0]; · iexact Hr0
  isplitl [Hr1]; · iexact Hr1
  iexact Hr2

/-- Two of the products of column group 1 loaded. -/
theorem part14 {Kt : _ → sProp 𝕄} :
    iprop((records m K ∗ levAts L lv) ∗ recvPay m c 1 0 ∗ recvPay m c 1 1 ∗ ((recvPay m c 1 0 ∗ recvPay m c 1 1) -∗ Kt ⟨k0_pay18 (pos c) k0_pay17 (Scalar.subi (pos c) 1#32) 4#32 (Scalar.cmpi .eq 4#32 0#32) (got m c 0 1) (got m c 1 1), Scalar.subi (pos c) 3#32, 4#32, Scalar.cmpi .eq 4#32 0#32⟩))
      ⊢ runs c (k0_part14 aM (Memref.isWhole_whole _) yM (Memref.isWhole_whole _) iM (Memref.isWhole_whole _) oM (Memref.isWhole_whole _) tM (Memref.isWhole_whole _) cc0_scratch3 cc0_scratch4 cc0_scratch5 cc0_scratch6 (pos c) k0_pay17 (Scalar.subi (pos c) 1#32) 4#32 (Scalar.cmpi .eq 4#32 0#32)) Kt := by
  simp only [k0_part14_eq_skeleton]; unfold k0_part14_skel
  simp only [semSignalWord, semWaitWord, Prog.lift, Prog.bind_op, Prog.bind_ret, Prog.pure_eq_ret, wp_deviceId]
  iintro ⟨⟨#HR, #Hlev⟩, H0, H1, Hk⟩
  iapply (step_load_recv m c 0 1) $$ H0
  iintro H0
  iapply (step_load_recv m c 1 1) $$ H1
  iintro H1
  iapply (runs_ret c)
  iapply Hk
  isplitl [H0]; · iexact H0
  iexact H1

/-- The third loaded, the finished rows of column group 1 stored and their copy out started. -/
theorem part15 {Kt : _ → sProp 𝕄} :
    iprop((records m K ∗ levAts L lv) ∗ recvPay m c 1 2 ∗ oAny c 1 ∗ yAny c 1 ∗ tk c (outs 1) ∗ ((recvPay m c 1 2 ∗ cr c (outs 1)) -∗ Kt ⟨⟩))
      ⊢ runs c (k0_part15 aM (Memref.isWhole_whole _) yM (Memref.isWhole_whole _) iM (Memref.isWhole_whole _) oM (Memref.isWhole_whole _) tM (Memref.isWhole_whole _) cc0_scratch3 cc0_scratch4 cc0_scratch5 cc0_scratch6 (pos c) (k0_pay12 (acc1 m c)) (k0_pay13 (acc1 m c)) (k0_pay18 (pos c) k0_pay17 (Scalar.subi (pos c) 1#32) 4#32 (Scalar.cmpi .eq 4#32 0#32) (got m c 0 1) (got m c 1 1)) (Scalar.subi (pos c) 3#32) 4#32 (Scalar.cmpi .eq 4#32 0#32)) Kt := by
  simp only [k0_part15_eq_skeleton]; unfold k0_part15_skel
  simp only [semSignalWord, semWaitWord, Prog.lift, Prog.bind_op, Prog.bind_ret, Prog.pure_eq_ret, wp_deviceId]
  iintro ⟨⟨#HR, #Hlev⟩, H2, Ho, Hy, Ht, Hk⟩
  iapply (step_load_recv m c 2 1) $$ H2
  iintro H2
  iapply (step_load_out c 1) $$ Ho
  iintro %x Ho
  iapply (step_store_out c 1 (res m c 1)) $$ Ho
  iintro Ho
  iapply (step_out m K c 1 sem_out1) $$ [Ho Hy Ht]
  · isplitr; · iexact HR
    isplitl [Ho]; · iexact Ho
    isplitl [Hy]; · iexact Hy
    iexact Ht
  iintro Hc
  iapply (runs_ret c)
  iapply Hk
  isplitl [H2]; · iexact H2
  iexact Hc

/-- The sends of the first block product waited for. -/
theorem part16 {Kt : _ → sProp 𝕄} :
    iprop((records m K ∗ levAts L lv) ∗ owing c 0 ∗ cr c (snd 0 0) ∗ pt c (snd 0 0) ∗ cr c (snd 0 1) ∗ pt c (snd 0 1) ∗ cr c (snd 0 2) ∗ pt c (snd 0 2) ∗ ((owing c 0 ∗ zr c (snd 0 0) ∗ zr c (snd 0 1) ∗ zr c (snd 0 2) ∗ sendPay m c 0 0 ∗ sendPay m c 0 1 ∗ sendPay m c 0 2) -∗ Kt ⟨⟩))
      ⊢ runs c (k0_part16 aM (Memref.isWhole_whole _) yM (Memref.isWhole_whole _) iM (Memref.isWhole_whole _) oM (Memref.isWhole_whole _) tM (Memref.isWhole_whole _) cc0_scratch3 cc0_scratch4 cc0_scratch5 cc0_scratch6 ) Kt := by
  simp only [k0_part16_eq_skeleton]; unfold k0_part16_skel
  simp only [semSignalWord, semWaitWord, Prog.lift, Prog.bind_op, Prog.bind_ret, Prog.pure_eq_ret, wp_deviceId]
  iintro ⟨⟨#HR, #Hlev⟩, HO, Hc0, Hp0, Hc1, Hp1, Hc2, Hp2, Hk⟩
  iapply (step_wait m K c (snd 0 0) sem_snd00.symm 0 (mayWait_free c _) (credit_sl 0 0)) $$ [HO Hc0 Hp0]
  · isplitr; · iexact HR
    isplitr; · iexact Hlev
    isplitl [HO]; · iexact HO
    isplitl [Hc0]; · iexact Hc0
    iexact Hp0
  iintro ⟨HO, Hz0, Hr0⟩
  ihave Hr0 := (Entails.of_eq (dmaPay_snd m c 0 0)) $$ Hr0
  iapply (step_wait m K c (snd 0 1) sem_snd01.symm 0 (mayWait_free c _) (credit_sl 0 0)) $$ [HO Hc1 Hp1]
  · isplitr; · iexact HR
    isplitr; · iexact Hlev
    isplitl [HO]; · iexact HO
    isplitl [Hc1]; · iexact Hc1
    iexact Hp1
  iintro ⟨HO, Hz1, Hr1⟩
  ihave Hr1 := (Entails.of_eq (dmaPay_snd m c 0 1)) $$ Hr1
  iapply (step_wait m K c (snd 0 2) sem_snd02.symm 0 (mayWait_free c _) (credit_sl 0 0)) $$ [HO Hc2 Hp2]
  · isplitr; · iexact HR
    isplitr; · iexact Hlev
    isplitl [HO]; · iexact HO
    isplitl [Hc2]; · iexact Hc2
    iexact Hp2
  iintro ⟨HO, Hz2, Hr2⟩
  ihave Hr2 := (Entails.of_eq (dmaPay_snd m c 0 2)) $$ Hr2
  iapply (runs_ret c)
  iapply Hk
  isplitl [HO]; · iexact HO
  isplitl [Hz0]; · iexact Hz0
  isplitl [Hz1]; · iexact Hz1
  isplitl [Hz2]; · iexact Hz2
  isplitl [Hr0]; · iexact Hr0
  isplitl [Hr1]; · iexact Hr1
  iexact Hr2

/-- The sends of the second block product and the first copy out waited for. -/
theorem part17 {Kt : _ → sProp 𝕄} :
    iprop((records m K ∗ levAts L lv) ∗ owing c 0 ∗ cr c (snd 1 0) ∗ pt c (snd 1 0) ∗ cr c (snd 1 1) ∗ pt c (snd 1 1) ∗ cr c (snd 1 2) ∗ pt c (snd 1 2) ∗ cr c 2 ∗ pt c 2 ∗ ((owing c 0 ∗ zr c (snd 1 0) ∗ zr c (snd 1 1) ∗ zr c (snd 1 2) ∗ sendPay m c 1 0 ∗ sendPay m c 1 1 ∗ sendPay m c 1 2 ∗ zr c 2 ∗ yP c 0 (res m c 0) ∗ oP c 0 (res m c 0)) -∗ Kt ⟨⟩))
      ⊢ runs c (k0_part17 aM (Memref.isWhole_whole _) yM (Memref.isWhole_whole _) iM (Memref.isWhole_whole _) oM (Memref.isWhole_whole _) tM (Memref.isWhole_whole _) cc0_scratch3 cc0_scratch4 cc0_scratch5 cc0_scratch6 ) Kt := by
  simp only [k0_part17_eq_skeleton]; unfold k0_part17_skel
  simp only [semSignalWord, semWaitWord, Prog.lift, Prog.bind_op, Prog.bind_ret, Prog.pure_eq_ret, wp_deviceId]
  iintro ⟨⟨#HR, #Hlev⟩, HO, Hc0, Hp0, Hc1, Hp1, Hc2, Hp2, Hc3, Hp3, Hk⟩
  iapply (step_wait m K c (snd 1 0) sem_snd10.symm 0 (mayWait_free c _) (credit_sl 0 1)) $$ [HO Hc0 Hp0]
  · isplitr; · iexact HR
    isplitr; · iexact Hlev
    isplitl [HO]; · iexact HO
    isplitl [Hc0]; · iexact Hc0
    iexact Hp0
  iintro ⟨HO, Hz0, Hr0⟩
  ihave Hr0 := (Entails.of_eq (dmaPay_snd m c 1 0)) $$ Hr0
  iapply (step_wait m K c (snd 1 1) sem_snd11.symm 0 (mayWait_free c _) (credit_sl 0 1)) $$ [HO Hc1 Hp1]
  · isplitr; · iexact HR
    isplitr; · iexact Hlev
    isplitl [HO]; · iexact HO
    isplitl [Hc1]; · iexact Hc1
    iexact Hp1
  iintro ⟨HO, Hz1, Hr1⟩
  ihave Hr1 := (Entails.of_eq (dmaPay_snd m c 1 1)) $$ Hr1
  iapply (step_wait m K c (snd 1 2) sem_snd12.symm 0 (mayWait_free c _) (credit_sl 0 1)) $$ [HO Hc2 Hp2]
  · isplitr; · iexact HR
    isplitr; · iexact Hlev
    isplitl [HO]; · iexact HO
    isplitl [Hc2]; · iexact Hc2
    iexact Hp2
  iintro ⟨HO, Hz2, Hr2⟩
  ihave Hr2 := (Entails.of_eq (dmaPay_snd m c 1 2)) $$ Hr2
  iapply (step_wait m K c 2 sem_out0.symm 0 (mayWait_free c _) (credit_yH 0)) $$ [HO Hc3 Hp3]
  · isplitr; · iexact HR
    isplitr; · iexact Hlev
    isplitl [HO]; · iexact HO
    isplitl [Hc3]; · iexact Hc3
    iexact Hp3
  iintro ⟨HO, Hz3, Hpay⟩
  ihave Hpay := (Entails.of_eq (dmaPay_outs m c 0)) $$ Hpay
  icases Hpay with ⟨Hy, Ho⟩
  iapply (runs_ret c)
  iapply Hk
  isplitl [HO]; · iexact HO
  isplitl [Hz0]; · iexact Hz0
  isplitl [Hz1]; · iexact Hz1
  isplitl [Hz2]; · iexact Hz2
  isplitl [Hr0]; · iexact Hr0
  isplitl [Hr1]; · iexact Hr1
  isplitl [Hr2]; · iexact Hr2
  isplitl [Hz3]; · iexact Hz3
  isplitl [Hy]; · iexact Hy
  iexact Ho

end Cert.Exchange

end
-- ==== Proof.BodyRun.lean ====
/-
# The whole body of the kernel, on one device

From what a device holds when the kernel starts to what it holds when the kernel ends: the argument as it was, the
result's two column groups holding the finished rows, and every semaphore at zero.
-/
module

public import proofs.«01_k».proof.Proof.Body

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (K : Dev nD × Fin 17 → ℕ) (c : Dev nD)

/-- The barrier's cell and the tokens for the three signals. -/
def semHold : sProp 𝕄 :=
  iprop(cred (tallyAt (bar c) () 3) ∗ atPos ER (bar c) 0 ∅ 0 ∗ bk (up 0 c) 0 ∗ bk (up 1 c) 1 ∗ bk (up 2 c) 2)
/-- The tokens of the transfers device `c` starts. -/
def tokHold : sProp 𝕄 :=
  iprop(tk c 0 ∗ tk c 1 ∗ tk c 2 ∗ tk c 3 ∗ tk c (snd 0 0) ∗ tk c (snd 0 1)
    ∗ tk c (snd 0 2) ∗ tk c (snd 1 0) ∗ tk c (snd 1 1) ∗ tk c (snd 1 2) ∗ tk (up 0 c) (rcv 0 0) ∗ tk (up 1 c) (rcv 0 1)
    ∗ tk (up 2 c) (rcv 0 2) ∗ tk (up 0 c) (rcv 1 0) ∗ tk (up 1 c) (rcv 1 1) ∗ tk (up 2 c) (rcv 1 2))
/-- Where device `c` stands at its transfer semaphores. -/
def posHold : sProp 𝕄 :=
  iprop(pt c 0 ∗ pt c 1 ∗ pt c 2 ∗ pt c 3 ∗ pt c (snd 0 0) ∗ pt c (snd 0 1)
    ∗ pt c (snd 0 2) ∗ pt c (snd 1 0) ∗ pt c (snd 1 1) ∗ pt c (snd 1 2) ∗ pt c (rcv 0 0) ∗ pt c (rcv 0 1)
    ∗ pt c (rcv 0 2) ∗ pt c (rcv 1 0) ∗ pt c (rcv 1 1) ∗ pt c (rcv 1 2))
/-- The credit for the six receives. -/
def credHold : sProp 𝕄 :=
  iprop(cr c (rcv 0 0) ∗ cr c (rcv 0 1) ∗ cr c (rcv 0 2) ∗ cr c (rcv 1 0) ∗ cr c (rcv 1 1) ∗ cr c (rcv 1 2))
/-- The five buffers, by the pieces the kernel moves. -/
def bufHold : sProp 𝕄 :=
  iprop(aP m c 0 ∗ aP m c 1 ∗ yAny c 0 ∗ yAny c 1 ∗ iAny c 0 ∗ iAny c 1
    ∗ oAny c 0 ∗ oAny c 1)
/-- The buffer of block products: its own two slots and the three pairs opened to the others. -/
def slotHold : sProp 𝕄 :=
  iprop(sAny c 0 0 ∗ sAny c 0 1 ∗ openP c 0 ∗ openP c 1 ∗ openP c 2)
/-- The five buffers at the end: the result holds the finished rows. -/
def bufDone : sProp 𝕄 :=
  iprop(aP m c 0 ∗ aP m c 1 ∗ yP c 0 (res m c 0) ∗ yP c 1 (res m c 1) ∗ iP m c 0 ∗ iP m c 1
    ∗ oP c 0 (res m c 0) ∗ oP c 1 (res m c 1))
/-- The buffer of block products at the end. -/
def slotDone : sProp 𝕄 :=
  iprop(sendPay m c 0 0 ∗ sendPay m c 0 1 ∗ sendPay m c 0 2 ∗ sendPay m c 1 0 ∗ sendPay m c 1 1 ∗ sendPay m c 1 2
    ∗ recvPay m c 0 0 ∗ recvPay m c 0 1 ∗ recvPay m c 0 2 ∗ recvPay m c 1 0 ∗ recvPay m c 1 1 ∗ recvPay m c 1 2)
/-- The sixteen transfer semaphores at zero. -/
def zeroDone : sProp 𝕄 :=
  iprop(zr c 0 ∗ zr c 1 ∗ zr c 2 ∗ zr c 3 ∗ zr c (snd 0 0) ∗ zr c (snd 0 1)
    ∗ zr c (snd 0 2) ∗ zr c (snd 1 0) ∗ zr c (snd 1 1) ∗ zr c (snd 1 2) ∗ zr c (rcv 0 0) ∗ zr c (rcv 0 1)
    ∗ zr c (rcv 0 2) ∗ zr c (rcv 1 0) ∗ zr c (rcv 1 1) ∗ zr c (rcv 1 2))

/-- What device `c` holds when the kernel starts. -/
def bodyHold : sProp 𝕄 := iprop(semHold (F := F) c ∗ tokHold (F := F) c ∗ posHold (F := F) c ∗ credHold (F := F) c ∗ bufHold m c ∗ slotHold (F := F) c)
/-- What it holds when the kernel ends. -/
def bodyDone : sProp 𝕄 := iprop(bufDone m c ∗ slotDone m c ∗ zeroDone (F := F) c ∗ semVal (bar c) 0)

/-- Slot 0 as the three shares lent to the three sends. -/
theorem slot_thirds (g : Fin 2) :
    sP c 0 g fullShare (tot m c g) ⊢ iprop(sP c 0 g (lent 0) (tot m c g) ∗ sP c 0 g (lent 1) (tot m c g) ∗ sP c 0 g (lent 2) (tot m c g)) := by
  unfold sP; exact (Ring.pointsTo_thirds fullShare _).1
theorem thirds_slot (g : Fin 2) :
    iprop(sendPay m c g 0 ∗ sendPay m c g 1 ∗ sendPay m c g 2) ⊢ sP c 0 g fullShare (tot m c g) := by
  unfold sendPay sP; exact (Ring.pointsTo_thirds fullShare _).2

set_option maxHeartbeats 4000000 in
/-- The body, from its start to its end. -/
theorem body_run (Kt : PUnit → sProp 𝕄) :
    iprop((records m K ∗ levAts L lv) ∗ owing c (O₀ c) ∗ bodyHold m c ∗ ((owing c 0 ∗ bodyDone m c) -∗ Kt ⟨⟩))
      ⊢ runs c (cc0_body aM (Memref.isWhole_whole _) yM (Memref.isWhole_whole _) iM (Memref.isWhole_whole _) oM (Memref.isWhole_whole _) tM (Memref.isWhole_whole _) cc0_scratch3 cc0_scratch4 cc0_scratch5 cc0_scratch6) Kt := by
  simp only [cc0_body_eq_skeleton]; unfold cc0_body_skel
  unfold runs
  simp only [wp_bind]
  unfold bodyHold semHold tokHold posHold credHold bufHold slotHold openP
  iintro ⟨⟨#HR, #Hlev⟩, HO, ⟨⟨HcB, HpB, Hb0, Hb1, Hb2⟩, ⟨Hti0, Hti1, Hto0, Hto1, Hts00, Hts01, Hts02, Hts10, Hts11, Hts12, Htr00, Htr01, Htr02, Htr10, Htr11, Htr12⟩, ⟨Hpi0, Hpi1, Hpo0, Hpo1, Hps00, Hps01, Hps02, Hps10, Hps11, Hps12, Hpr00, Hpr01, Hpr02, Hpr10, Hpr11, Hpr12⟩, ⟨Hcr00, Hcr01, Hcr02, Hcr10, Hcr11, Hcr12⟩, ⟨Ha0, Ha1, Hy0, Hy1, Hi0, Hi1, Ho0, Ho1⟩, ⟨Hs0, Hs1, ⟨Hq00, Hq10⟩, ⟨Hq01, Hq11⟩, ⟨Hq02, Hq12⟩⟩⟩, Hk⟩
  iapply (part1 m K c)
  isplitr; · (isplitr; · iexact HR); iexact Hlev
  isplitl [HO]; · iexact HO
  isplitl [Hb0]; · iexact Hb0
  isplitl [Hb1]; · iexact Hb1
  isplitl [Hq02 Hq12]; · (isplitl [Hq02]; · iexact Hq02); iexact Hq12
  isplitl [Hq01 Hq11]; · (isplitl [Hq01]; · iexact Hq01); iexact Hq11
  iintro %w1 %w2 %w3 HO
  try dsimp only
  iapply (part2 m K c)
  isplitr; · (isplitr; · iexact HR); iexact Hlev
  isplitl [HO]; · iexact HO
  isplitl [Hb2]; · iexact Hb2
  isplitl [Hq00 Hq10]; · (isplitl [Hq00]; · iexact Hq00); iexact Hq10
  isplitl [Ha0]; · iexact Ha0
  isplitl [Ha1]; · iexact Ha1
  isplitl [Hi0]; · iexact Hi0
  isplitl [Hi1]; · iexact Hi1
  isplitl [Hti0]; · iexact Hti0
  isplitl [Hti1]; · iexact Hti1
  isplitl [Hpi0]; · iexact Hpi0
  iintro ⟨HO, Hi0, Ha0, Hci1, Hzi0⟩
  try dsimp only
  iapply (part3 m K c)
  isplitr; · (isplitr; · iexact HR); iexact Hlev
  isplitl [Hs0]; · iexact Hs0
  isplitl [HO]; · iexact HO
  isplitl [HcB]; · iexact HcB
  isplitl [HpB]; · iexact HpB
  iintro %w4 %w5 %w6 ⟨Hs0, HO, HzB, ⟨Hd00, Hd10⟩, ⟨Hd01, Hd11⟩, ⟨Hd02, Hd12⟩⟩
  try dsimp only
  ihave Hs0 := (slot_thirds m c 0) $$ Hs0
  icases Hs0 with ⟨Hl00, Hl01, Hl02⟩
  iapply (part4 m K c)
  isplitr; · (isplitr; · iexact HR); iexact Hlev
  isplitl [HO]; · iexact HO
  isplitl [Hl00]; · iexact Hl00
  isplitl [Hd00]; · iexact Hd00
  isplitl [Hts00]; · iexact Hts00
  isplitl [Htr00]; · iexact Htr00
  iintro %r4 ⟨HO, Hcs00⟩
  try dsimp only
  obtain ⟨w7, w8⟩ := r4
  try dsimp only
  iapply (part5 m K c)
  isplitr; · (isplitr; · iexact HR); iexact Hlev
  isplitl [HO]; · iexact HO
  isplitl [Hl01]; · iexact Hl01
  isplitl [Hd01]; · iexact Hd01
  isplitl [Hts01]; · iexact Hts01
  isplitl [Htr01]; · iexact Htr01
  iintro %r5 ⟨HO, Hcs01⟩
  try dsimp only
  iapply (part6 m K c)
  isplitr; · (isplitr; · iexact HR); iexact Hlev
  isplitl [HO]; · iexact HO
  isplitl [Hl02]; · iexact Hl02
  isplitl [Hd02]; · iexact Hd02
  isplitl [Hts02]; · iexact Hts02
  isplitl [Htr02]; · iexact Htr02
  isplitl [Hci1]; · iexact Hci1
  isplitl [Hpi1]; · iexact Hpi1
  iintro ⟨HO, Hcs02, Hi1, Ha1, Hzi1⟩
  try dsimp only
  iapply (part7 m K c)
  isplitr; · (isplitr; · iexact HR); iexact Hlev
  isplitl [Hs1]; · iexact Hs1
  iintro %w9 Hs1
  try dsimp only
  ihave Hs1 := (slot_thirds m c 1) $$ Hs1
  icases Hs1 with ⟨Hl10, Hl11, Hl12⟩
  iapply (part8 m K c)
  isplitr; · (isplitr; · iexact HR); iexact Hlev
  isplitl [HO]; · iexact HO
  isplitl [Hl10]; · iexact Hl10
  isplitl [Hd10]; · iexact Hd10
  isplitl [Hts10]; · iexact Hts10
  isplitl [Htr10]; · iexact Htr10
  isplitl [Hl11]; · iexact Hl11
  isplitl [Hd11]; · iexact Hd11
  isplitl [Hts11]; · iexact Hts11
  isplitl [Htr11]; · iexact Htr11
  iintro %r8 ⟨HO, Hcs10, Hcs11⟩
  try dsimp only
  obtain ⟨w10, w11, w12⟩ := r8
  try dsimp only
  iapply (part9 m K c)
  isplitr; · (isplitr; · iexact HR); iexact Hlev
  isplitl [HO]; · iexact HO
  isplitl [Hl12]; · iexact Hl12
  isplitl [Hd12]; · iexact Hd12
  isplitl [Hts12]; · iexact Hts12
  isplitl [Htr12]; · iexact Htr12
  iintro %w13 ⟨HO, Hcs12⟩
  try dsimp only
  iapply (part10 m K c)
  isplitr; · (isplitr; · iexact HR); iexact Hlev
  isplitl [HO]; · iexact HO
  isplitl [Hcr00]; · iexact Hcr00
  isplitl [Hpr00]; · iexact Hpr00
  isplitl [Hcr01]; · iexact Hcr01
  isplitl [Hpr01]; · iexact Hpr01
  isplitl [Hcr02]; · iexact Hcr02
  isplitl [Hpr02]; · iexact Hpr02
  iintro ⟨HO, Hzr00, Hzr01, Hzr02, Hr00, Hr01, Hr02⟩
  try dsimp only
  iapply (part11 m K c)
  isplitr; · (isplitr; · iexact HR); iexact Hlev
  isplitl [Hr00]; · iexact Hr00
  isplitl [Hr01]; · iexact Hr01
  iintro ⟨Hr00, Hr01⟩
  try dsimp only
  iapply (part12 m K c)
  isplitr; · (isplitr; · iexact HR); iexact Hlev
  isplitl [Hr02]; · iexact Hr02
  isplitl [Ho0]; · iexact Ho0
  isplitl [Hy0]; · iexact Hy0
  isplitl [Hto0]; · iexact Hto0
  iintro ⟨Hr02, Hco0⟩
  try dsimp only
  iapply (part13 m K c)
  isplitr; · (isplitr; · iexact HR); iexact Hlev
  isplitl [HO]; · iexact HO
  isplitl [Hcr10]; · iexact Hcr10
  isplitl [Hpr10]; · iexact Hpr10
  isplitl [Hcr11]; · iexact Hcr11
  isplitl [Hpr11]; · iexact Hpr11
  isplitl [Hcr12]; · iexact Hcr12
  isplitl [Hpr12]; · iexact Hpr12
  iintro ⟨HO, Hzr10, Hzr11, Hzr12, Hr10, Hr11, Hr12⟩
  try dsimp only
  iapply (part14 m K c)
  isplitr; · (isplitr; · iexact HR); iexact Hlev
  isplitl [Hr10]; · iexact Hr10
  isplitl [Hr11]; · iexact Hr11
  iintro ⟨Hr10, Hr11⟩
  try dsimp only
  iapply (part15 m K c)
  isplitr; · (isplitr; · iexact HR); iexact Hlev
  isplitl [Hr12]; · iexact Hr12
  isplitl [Ho1]; · iexact Ho1
  isplitl [Hy1]; · iexact Hy1
  isplitl [Hto1]; · iexact Hto1
  iintro ⟨Hr12, Hco1⟩
  try dsimp only
  iapply (part16 m K c)
  isplitr; · (isplitr; · iexact HR); iexact Hlev
  isplitl [HO]; · iexact HO
  isplitl [Hcs00]; · iexact Hcs00
  isplitl [Hps00]; · iexact Hps00
  isplitl [Hcs01]; · iexact Hcs01
  isplitl [Hps01]; · iexact Hps01
  isplitl [Hcs02]; · iexact Hcs02
  isplitl [Hps02]; · iexact Hps02
  iintro ⟨HO, Hzs00, Hzs01, Hzs02, Hl00, Hl01, Hl02⟩
  try dsimp only
  iapply (part17 m K c)
  isplitr; · (isplitr; · iexact HR); iexact Hlev
  isplitl [HO]; · iexact HO
  isplitl [Hcs10]; · iexact Hcs10
  isplitl [Hps10]; · iexact Hps10
  isplitl [Hcs11]; · iexact Hcs11
  isplitl [Hps11]; · iexact Hps11
  isplitl [Hcs12]; · iexact Hcs12
  isplitl [Hps12]; · iexact Hps12
  isplitl [Hco0]; · iexact Hco0
  isplitl [Hpo0]; · iexact Hpo0
  iintro ⟨HO, Hzs10, Hzs11, Hzs12, Hl10, Hl11, Hl12, Hzo0, Hy0, Ho0⟩
  try dsimp only
  simp only [Prog.lift, Prog.bind_op, Prog.bind_ret, Prog.pure_eq_ret]
  iapply (step_wait m K c 3 sem_out1.symm 0 (mayWait_free c _) (credit_yH 1)) $$ [HO Hco1 Hpo1]
  · isplitr; · iexact HR
    isplitr; · iexact Hlev
    isplitl [HO]; · iexact HO
    isplitl [Hco1]; · iexact Hco1
    iexact Hpo1
  iintro ⟨HO, Hzo1, Hpay⟩
  ihave Hpay := (Entails.of_eq (dmaPay_outs m c 1)) $$ Hpay
  icases Hpay with ⟨Hy1, Ho1⟩
  iapply (runs_ret c)
  iapply (runs_ret c)
  iapply Hk
  isplitl [HO]; · iexact HO
  unfold bodyDone bufDone slotDone zeroDone
  isplitl [Ha0 Ha1 Hy0 Hy1 Hi0 Hi1 Ho0 Ho1]
  · isplitl [Ha0]; · iexact Ha0
    isplitl [Ha1]; · iexact Ha1
    isplitl [Hy0]; · iexact Hy0
    isplitl [Hy1]; · iexact Hy1
    isplitl [Hi0]; · iexact Hi0
    isplitl [Hi1]; · iexact Hi1
    isplitl [Ho0]; · iexact Ho0
    iexact Ho1
  isplitl [Hl00 Hl01 Hl02 Hl10 Hl11 Hl12 Hr00 Hr01 Hr02 Hr10 Hr11 Hr12]
  · isplitl [Hl00]; · iexact Hl00
    isplitl [Hl01]; · iexact Hl01
    isplitl [Hl02]; · iexact Hl02
    isplitl [Hl10]; · iexact Hl10
    isplitl [Hl11]; · iexact Hl11
    isplitl [Hl12]; · iexact Hl12
    isplitl [Hr00]; · iexact Hr00
    isplitl [Hr01]; · iexact Hr01
    isplitl [Hr02]; · iexact Hr02
    isplitl [Hr10]; · iexact Hr10
    isplitl [Hr11]; · iexact Hr11
    iexact Hr12
  isplitl [Hzi0 Hzi1 Hzo0 Hzo1 Hzs00 Hzs01 Hzs02 Hzs10 Hzs11 Hzs12 Hzr00 Hzr01 Hzr02 Hzr10 Hzr11 Hzr12]
  · isplitl [Hzi0]; · iexact Hzi0
    isplitl [Hzi1]; · iexact Hzi1
    isplitl [Hzo0]; · iexact Hzo0
    isplitl [Hzo1]; · iexact Hzo1
    isplitl [Hzs00]; · iexact Hzs00
    isplitl [Hzs01]; · iexact Hzs01
    isplitl [Hzs02]; · iexact Hzs02
    isplitl [Hzs10]; · iexact Hzs10
    isplitl [Hzs11]; · iexact Hzs11
    isplitl [Hzs12]; · iexact Hzs12
    isplitl [Hzr00]; · iexact Hzr00
    isplitl [Hzr01]; · iexact Hzr01
    isplitl [Hzr02]; · iexact Hzr02
    isplitl [Hzr10]; · iexact Hzr10
    isplitl [Hzr11]; · iexact Hzr11
    iexact Hzr12
  iexact HzB

end Cert.Exchange

end
-- ==== Proof.Pieces.lean ====
/-
# Whole buffers and their pieces

The five buffers of a device as the pieces that the kernel moves: the two column groups of a block, and the eight slots
of the buffer of block products. Each whole buffer is its pieces, and the pieces, whatever they hold, are a whole buffer.
-/
module

public import proofs.«01_k».proof.Proof.BodyRun

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (c : Dev nD)

/-! ## Which elements a piece has -/

theorem mem_half (g : Fin 2) (y : S2048x1024.Idx) (h : y ∈ (halfR g).set) : g.val = (y 1).val / 512 := by
  have h1 := (Rect.mem_set_unit.mp h) 1
  have h2 : 512 * g.val ≤ (y 1).val ∧ (y 1).val < 512 * g.val + 512 := h1
  omega

theorem half_disjoint (g g' : Fin 2) (h : g ≠ g') : Disjoint (halfR g).set (halfR g').set :=
  Finset.disjoint_left.mpr fun y h1 h2 => h (Fin.ext ((mem_half g y h1).trans (mem_half g' y h2).symm))

theorem half_cover : (Finset.univ.biUnion fun g => (halfR g).set) = (Finset.univ : Finset S2048x1024.Idx) := by
  refine Finset.eq_univ_of_forall fun y => Finset.mem_biUnion.mpr ?_
  have hy0 : (y 0).val < 2048 := (y 0).isLt
  have hy1 : (y 1).val < 1024 := (y 1).isLt
  refine ⟨⟨(y 1).val / 512, by omega⟩, Finset.mem_univ _, Rect.mem_set_unit.mpr fun a => ?_⟩
  match a with
  | 0 => exact ⟨Nat.zero_le _, by show (y 0).val < 0 + 2048; omega⟩
  | 1 => exact ⟨by show 512 * ((y 1).val / 512) ≤ (y 1).val; omega, by show (y 1).val < 512 * ((y 1).val / 512) + 512; omega⟩

theorem mem_slot (b : Fin 4 × Fin 2) (y : S4x2x1x512.Idx) (h : y ∈ (slotR b.1 b.2).set) : b.1.val = (y 0).val ∧ b.2.val = (y 1).val := by
  have h0 : b.1.val ≤ (y 0).val ∧ (y 0).val < b.1.val + 1 := (Rect.mem_set_unit.mp h) 0
  have h1 : b.2.val ≤ (y 1).val ∧ (y 1).val < b.2.val + 1 := (Rect.mem_set_unit.mp h) 1
  omega

theorem slot_disjoint (b b' : Fin 4 × Fin 2) (h : b ≠ b') : Disjoint (slotR b.1 b.2).set (slotR b'.1 b'.2).set :=
  Finset.disjoint_left.mpr fun y h1 h2 => h (Prod.ext
    (Fin.ext ((mem_slot b y h1).1.trans (mem_slot b' y h2).1.symm)) (Fin.ext ((mem_slot b y h1).2.trans (mem_slot b' y h2).2.symm)))

theorem slot_cover : (Finset.univ.biUnion fun b : Fin 4 × Fin 2 => (slotR b.1 b.2).set) = (Finset.univ : Finset S4x2x1x512.Idx) := by
  refine Finset.eq_univ_of_forall fun y => Finset.mem_biUnion.mpr ?_
  have hy2 : (y 2).val < 1 := (y 2).isLt
  have hy3 : (y 3).val < 512 := (y 3).isLt
  refine ⟨(⟨(y 0).val, (y 0).isLt⟩, ⟨(y 1).val, (y 1).isLt⟩), Finset.mem_univ _, Rect.mem_set_unit.mpr fun a => ?_⟩
  match a with
  | 0 => exact ⟨le_refl _, by show (y 0).val < (y 0).val + 1; omega⟩
  | 1 => exact ⟨le_refl _, by show (y 1).val < (y 1).val + 1; omega⟩
  | 2 => exact ⟨Nat.zero_le _, by show (y 2).val < 0 + 1; omega⟩
  | 3 => exact ⟨Nat.zero_le _, by show (y 3).val < 0 + 512; omega⟩

theorem set_aH (g : Fin 2) : (aH g).view.set = (halfR g).set := View.set_slice_whole _ _
theorem set_yH (g : Fin 2) : (yH g).view.set = (halfR g).set := View.set_slice_whole _ _
theorem set_iH (g : Fin 2) : (iH g).view.set = (halfR g).set := View.set_slice_whole _ _
theorem set_oH (g : Fin 2) : (oH g).view.set = (halfR g).set := View.set_slice_whole _ _
theorem set_sl (k : Fin 4) (g : Fin 2) : (sl k g).view.set = (slotR k g).set := (View.set_reshape _ _).trans (View.set_slice_whole _ _)

/-! ## Splitting -/

/-- The argument is its two column groups. -/
theorem split_a : (((c : Thread nD τ).loc main_arg0 ↦{fullShare} m ((c : Thread nD τ).loc main_arg0) : sProp 𝕄))
    = iprop(aP m c 0 ∗ aP m c 1) := by
  rw [Ring.pointsTo_blocks (ℓ := (c : Thread nD τ).loc main_arg0) (fun g => (halfR g).set) half_disjoint half_cover, bigSep_univ_two]
  unfold aP; rw [set_aH, set_aH]

theorem split_y (f : Buf (Elt F) ((c : Thread nD τ).loc main_v1)) :
    ((c : Thread nD τ).loc main_v1 ↦{fullShare} f : sProp 𝕄) ⊢ iprop(yAny c 0 ∗ yAny c 1) := by
  rw [Ring.pointsTo_blocks (ℓ := (c : Thread nD τ).loc main_v1) (fun g => (halfR g).set) half_disjoint half_cover, bigSep_univ_two]
  unfold yAny; rw [set_yH, set_yH]
  iintro ⟨H0, H1⟩
  isplitl [H0]; · iexists f; iexact H0
  iexists f; iexact H1

theorem split_i (f : Buf (Elt F) ((c : Thread nD τ).loc cc0_scratch0)) :
    ((c : Thread nD τ).loc cc0_scratch0 ↦{fullShare} f : sProp 𝕄) ⊢ iprop(iAny c 0 ∗ iAny c 1) := by
  rw [Ring.pointsTo_blocks (ℓ := (c : Thread nD τ).loc cc0_scratch0) (fun g => (halfR g).set) half_disjoint half_cover, bigSep_univ_two]
  unfold iAny; rw [set_iH, set_iH]
  iintro ⟨H0, H1⟩
  isplitl [H0]; · iexists f; iexact H0
  iexists f; iexact H1

theorem split_o (f : Buf (Elt F) ((c : Thread nD τ).loc cc0_scratch1)) :
    ((c : Thread nD τ).loc cc0_scratch1 ↦{fullShare} f : sProp 𝕄) ⊢ iprop(oAny c 0 ∗ oAny c 1) := by
  rw [Ring.pointsTo_blocks (ℓ := (c : Thread nD τ).loc cc0_scratch1) (fun g => (halfR g).set) half_disjoint half_cover, bigSep_univ_two]
  unfold oAny; rw [set_oH, set_oH]
  iintro ⟨H0, H1⟩
  isplitl [H0]; · iexists f; iexact H0
  iexists f; iexact H1

/-- One slot, whatever it holds. -/
theorem slot_any (f : Buf (Elt F) ((c : Thread nD τ).loc cc0_scratch2)) (k : Fin 4) (g : Fin 2) :
    ((c : Thread nD τ).loc cc0_scratch2 ↦[(slotR k g).set]{fullShare} f : sProp 𝕄) ⊢ sAny c k g := by
  rw [← set_sl]
  iintro H
  ihave H' := (Entails.of_eq (pointsTo_rep (c : Thread nD τ) (sl k g) f fullShare)) $$ H
  iexists ((sl k g).view.read (Elt F) f)
  unfold sP
  iexact H'

theorem list42 (Φ : Fin 4 × Fin 2 → sProp 𝕄) : bigSep Finset.univ Φ
    = iprop(Φ (0, 0) ∗ Φ (0, 1) ∗ Φ (1, 0) ∗ Φ (1, 1) ∗ Φ (2, 0) ∗ Φ (2, 1) ∗ Φ (3, 0) ∗ Φ (3, 1)) :=
  bigSep_univ_eq_bigSepL [(0, 0), (0, 1), (1, 0), (1, 1), (2, 0), (2, 1), (3, 0), (3, 1)] (by decide) (by decide) Φ

theorem split_t (f : Buf (Elt F) ((c : Thread nD τ).loc cc0_scratch2)) :
    ((c : Thread nD τ).loc cc0_scratch2 ↦{fullShare} f : sProp 𝕄) ⊢ slotHold c := by
  rw [Ring.pointsTo_blocks (ℓ := (c : Thread nD τ).loc cc0_scratch2) (fun b : Fin 4 × Fin 2 => (slotR b.1 b.2).set) slot_disjoint slot_cover, list42]
  unfold slotHold
  iintro ⟨H0, H1, H2, H3, H4, H5, H6, H7⟩
  isplitl [H0]; · iapply (slot_any c f 0 0); iexact H0
  isplitl [H1]; · iapply (slot_any c f 0 1); iexact H1
  isplitl [H2 H3]
  · isplitl [H2]; · iapply (slot_any c f 1 0); iexact H2
    iapply (slot_any c f 1 1); iexact H3
  isplitl [H4 H5]
  · isplitl [H4]; · iapply (slot_any c f 2 0); iexact H4
    iapply (slot_any c f 2 1); iexact H5
  isplitl [H6]; · iapply (slot_any c f 3 0); iexact H6
  iapply (slot_any c f 3 1); iexact H7

/-! ## Joining -/

theorem join_i :
    iprop(iP m c 0 ∗ iP m c 1) ⊢ (∃ f, (c : Thread nD τ).loc cc0_scratch0 ↦{fullShare} f : sProp 𝕄) := by
  refine BIBase.Entails.trans ?_ (Ring.pointsTo_blocks_join_exists (ℓ := (c : Thread nD τ).loc cc0_scratch0) (fun g => (halfR g).set) half_disjoint half_cover
    ((iH 0).view.rep (xin m c 0)))
  rw [bigSep_univ_two]
  unfold iP; rw [set_iH, set_iH]
  iintro ⟨H0, H1⟩
  isplitl [H0]; · iexists _; iexact H0
  iexists _; iexact H1

theorem join_o (w w' : FVec F S2048x512 .bf16) :
    iprop(oP c 0 w ∗ oP c 1 w') ⊢ (∃ f, (c : Thread nD τ).loc cc0_scratch1 ↦{fullShare} f : sProp 𝕄) := by
  refine BIBase.Entails.trans ?_ (Ring.pointsTo_blocks_join_exists (ℓ := (c : Thread nD τ).loc cc0_scratch1) (fun g => (halfR g).set) half_disjoint half_cover
    ((oH 0).view.rep w))
  rw [bigSep_univ_two]
  unfold oP; rw [set_oH, set_oH]
  iintro ⟨H0, H1⟩
  isplitl [H0]; · iexists _; iexact H0
  iexists _; iexact H1

theorem any_slot (k : Fin 4) (g : Fin 2) (w : FVec F S1x512 .bf16) :
    (sP c k g fullShare w : sProp 𝕄) ⊢ iprop(∃ f, (c : Thread nD τ).loc cc0_scratch2 ↦[(slotR k g).set]{fullShare} f) := by
  unfold sP; rw [set_sl]
  iintro H
  iexists _; iexact H

theorem join_t : slotDone m c ⊢ (∃ f, (c : Thread nD τ).loc cc0_scratch2 ↦{fullShare} f : sProp 𝕄) := by
  refine BIBase.Entails.trans ?_ (Ring.pointsTo_blocks_join_exists (ℓ := (c : Thread nD τ).loc cc0_scratch2) (fun b : Fin 4 × Fin 2 => (slotR b.1 b.2).set)
    slot_disjoint slot_cover ((sl 0 0).view.rep (tot m c 0)))
  rw [list42]
  unfold slotDone
  iintro ⟨Hs00, Hs01, Hs02, Hs10, Hs11, Hs12, Hr00, Hr01, Hr02, Hr10, Hr11, Hr12⟩
  ihave H0 := (thirds_slot m c 0) $$ [Hs00 Hs01 Hs02]
  · isplitl [Hs00]; · iexact Hs00
    isplitl [Hs01] <;> iassumption
  ihave H1 := (thirds_slot m c 1) $$ [Hs10 Hs11 Hs12]
  · isplitl [Hs10]; · iexact Hs10
    isplitl [Hs11] <;> iassumption
  unfold recvPay
  isplitl [H0]; · iapply (any_slot c 0 0 _); iexact H0
  isplitl [H1]; · iapply (any_slot c 0 1 _); iexact H1
  isplitl [Hr00]; · iapply (any_slot c 1 0 _); iexact Hr00
  isplitl [Hr10]; · iapply (any_slot c 1 1 _); iexact Hr10
  isplitl [Hr01]; · iapply (any_slot c 2 0 _); iexact Hr01
  isplitl [Hr11]; · iapply (any_slot c 2 1 _); iexact Hr11
  isplitl [Hr02]; · iapply (any_slot c 3 0 _); iexact Hr02
  iapply (any_slot c 3 1 _); iexact Hr12

/-- A piece of the result that holds `w` is read as `w`. -/
theorem read_y (g : Fin 2) (w : FVec F S2048x512 .bf16) (f : Buf (Elt F) ((c : Thread nD τ).loc main_v1))
    (h : ∀ i ∈ (yH g).view.set, f i = (yH g).view.rep w i) : (yH g).view.read (Elt F) f = w := by
  rw [← View.read_rep (Val := Elt F) (yH g).view w]
  exact View.read_congr h

end Cert.Exchange

end
-- ==== Proof.Launch.lean ====
/-
# The launch: from four devices with zero counters to the end of every execution

The ghost state is set up for all devices at once, each device is dealt the tokens of the duties it pays, and the body
runs on each. At the end the argument is as it was, each column group of the result reads the finished rows, and every
semaphore counts zero.
-/
module

public import proofs.«01_k».proof.Proof.Pieces
public import proofs.«01_k».proof.Proof.Gen.KernelIdeal.Points
public import Idealize.ShloMosaic.Lib.Pipeline.CollectiveSegs
public import Idealize.ShloMosaic.Lib.Quiescent

@[expose] public section

noncomputable section

namespace Cert.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat BodyObligation)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after the body -/

/-- The tokens of the duties device `c` pays. -/
def payToks (c : Dev nD) : sProp 𝕄 := iprop((bk (up 0 c) 0 ∗ bk (up 1 c) 1 ∗ bk (up 2 c) 2) ∗ tokHold c)
/-- Device `c`'s positions and tokens. -/
def linear (c : Dev nD) : sProp 𝕄 := iprop((atPos ER (bar c) 0 ∅ 0 ∗ posHold c) ∗ payToks c)
/-- What the ghost set-up deals device `c`. -/
def G' (c : Dev nD) : sProp 𝕄 := iprop(∃ K, records m K ∗ linear c)

/-- What device `c` starts from, its scratch buffers aside. -/
def start (c : Dev nD) : sProp 𝕄 :=
  iprop(G' m c ∗ (cred (tallyAt (bar c) () 3) ∗ credHold c) ∗ levAts L lv ∗ (aP m c 0 ∗ aP m c 1) ∗ (yAny c 0 ∗ yAny c 1))
def Φ₀ (c : Dev nD) : sProp 𝕄 :=
  iprop(start m c ∗ (iAny c 0 ∗ iAny c 1) ∗ (oAny c 0 ∗ oAny c 1) ∗ slotHold c)

def dats (_ : Fin 1) (c : Dev nD) : Dat τ (Elt F) Unit ℕ UU ℕ cfg0 c where
  A w := m ((cfg0.win w).arr.view.loc (c : Thread nD τ))
  after w _ := w.elim0
  Φ t := match t with
    | ⟨0, _⟩ => Φ₀ m c
    | ⟨_ + 1, _⟩ => bodyDone m c
  q _ := fullShare
  owed t := match t with
    | ⟨0, _⟩ => O₀ c
    | ⟨_ + 1, _⟩ => 0

theorem bigSep_none (Φ : Fin cfg0.W → sProp 𝕄) : bigSep Finset.univ Φ = iprop(emp) := by
  rw [show (Finset.univ : Finset (Fin cfg0.W)) = ∅ from rfl, bigSep_empty]; rfl

def bodyPre (c : Dev nD) : sProp 𝕄 := iprop(Φ₀ m c ∗ (dats m 0 c).owesAt () t0_0.castSucc ∗ emp)
def bodyPost (c : Dev nD) : sProp 𝕄 := iprop(bodyDone m c ∗ (dats m 0 c).owesAt () t0_0.succ ∗ emp)

theorem owesAt_start (c : Dev nD) : (dats (F := F) m 0 c).owesAt () t0_0.castSucc ⊢ owing c (O₀ c) := by
  unfold Dat.owesAt Pipeline.owesWithin owing
  iintro ⟨%W, %hW, HO⟩
  iexists W; iexact HO

theorem owesAt_end (c : Dev nD) : owing c 0 ⊢ (dats (F := F) m 0 c).owesAt () t0_0.succ := by
  unfold Dat.owesAt Pipeline.owesWithin owing
  iintro ⟨%W, HO⟩
  iexists W; isplitr
  · ipureintro; exact fun _ _ => Or.inl trivial
  iexact HO

theorem body_obligation (c : Dev nD) : BodyObligation (dats (F := F) m 0 c) (defs₀ (F := F)) 𝒱₀ () Set.univ := fun t => by
  rw [fin_N0 t]
  rw [bigSep_none, bigSep_none]
  show bodyPre m c ⊢ runs c (bodyAt0 t0_0) (fun _ => bodyPost m c)
  unfold bodyPre bodyPost Φ₀ start G' linear payToks
  iintro ⟨⟨⟨⟨%K, HR, ⟨HpB, Hp⟩, ⟨Hb0, Hb1, Hb2⟩, Ht⟩, ⟨HcB, Hc⟩, Hlev, ⟨Ha0, Ha1⟩, ⟨Hy0, Hy1⟩⟩, ⟨Hi0, Hi1⟩, ⟨Ho0, Ho1⟩, Hs⟩, HO, -⟩
  iapply (body_run m K c)
  isplitl [HR Hlev]; · (isplitl [HR] <;> iassumption)
  isplitl [HO]; · iapply (owesAt_start m c); iexact HO
  unfold bodyHold semHold bufHold
  isplitr []
  · isplitl [HpB Hb0 Hb1 Hb2 HcB]
    · isplitl [HcB]; · iexact HcB
      isplitl [HpB]; · iexact HpB
      isplitl [Hb0]; · iexact Hb0
      isplitl [Hb1] <;> iassumption
    isplitl [Ht]; · iexact Ht
    isplitl [Hp]; · iexact Hp
    isplitl [Hc]; · iexact Hc
    isplitr [Hs]
    · isplitl [Ha0]; · iexact Ha0
      isplitl [Ha1]; · iexact Ha1
      isplitl [Hy0]; · iexact Hy0
      isplitl [Hy1]; · iexact Hy1
      isplitl [Hi0]; · iexact Hi0
      isplitl [Hi1]; · iexact Hi1
      isplitl [Ho0] <;> iassumption
    iexact Hs
  · iintro ⟨HO, HD⟩
    isplitl [HD]; · iexact HD
    isplitl [HO]; · iapply (owesAt_end m c); iexact HO
    iempintro

/-! ## The ghost set-up -/

theorem ownSemFacts : Pipeline.OwnSemFacts cfg0.spec osem := by decide

theorem csem_injective : Function.Injective csem := by
  intro i j h
  revert i j; decide

theorem kcell_injective : Function.Injective (kcell : Dev nD × Fin 17 → GSem nD τ sig) := by
  rintro ⟨c, k⟩ ⟨c', k'⟩ h
  have h1 : c = c' := by have := congrArg (fun g : GSem nD τ sig => g.1.1) h; exact this
  subst h1
  have h2 : k = k' := csem_injective (congrArg Prod.snd h)
  subst h2; rfl

def ringCells : Finset (GSem nD τ sig) := Finset.univ.map ⟨kcell, kcell_injective⟩

/-- Every token of a device's own cells: three at its barrier, one at each transfer semaphore. -/
abbrev tokOf (cj : Dev nD × (Fin 3 ⊕ Fin 16)) : GSem nD τ sig × ℕ × Fin 3 := match cj.2 with
  | .inl j => (bar cj.1, 0, j)
  | .inr i => (dc cj.1 i, 0, 0)

theorem tokOf_injective : Function.Injective tokOf := by
  rintro ⟨c, j⟩ ⟨c', j'⟩ h
  have h1 : c = c' := by
    have := congrArg (fun x : GSem nD τ sig × ℕ × Fin 3 => x.1.1.1) h
    rcases j with j | j <;> rcases j' with j' | j' <;> exact this
  subst h1
  rcases j with j | j <;> rcases j' with j' | j'
  · have := congrArg (fun x : GSem nD τ sig × ℕ × Fin 3 => x.2.2) h
    rw [show j = j' from this]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : osem j = osem j' := congrArg (fun x : GSem nD τ sig × ℕ × Fin 3 => x.1.2) h
    rw [show j = j' from SemLoc.dma.inj h2]

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- The tokens of device `c`'s own cells. -/
def toks (c : Dev nD) : sProp 𝕄 :=
  iprop((bk c 0 ∗ bk c 1 ∗ bk c 2) ∗ (tk c 0 ∗ tk c 1 ∗ tk c 2 ∗ tk c 3 ∗ tk c (snd 0 0) ∗ tk c (snd 0 1)
    ∗ tk c (snd 0 2) ∗ tk c (snd 1 0) ∗ tk c (snd 1 1) ∗ tk c (snd 1 2) ∗ tk c (rcv 0 0) ∗ tk c (rcv 0 1)
    ∗ tk c (rcv 0 2) ∗ tk c (rcv 1 0) ∗ tk c (rcv 1 1) ∗ tk c (rcv 1 2)))

/-- What the launch element deals device `c`. -/
def G (c : Dev nD) : sProp 𝕄 :=
  iprop((bigSep Finset.univ fun k : Fin 17 => roundState ER (plan m) (kcell (c, k)) 0)
    ∗ (bigSep Finset.univ fun k : Fin 17 => iprop(atPos ER (kcell (c, k)) 0 ∅ 0 ∗ reached ER (kcell (c, k)) 0)) ∗ toks c)

theorem list3 (Φ : Fin 3 → sProp 𝕄) : bigSep Finset.univ Φ = iprop(Φ 0 ∗ Φ 1 ∗ Φ 2) := bigSep_univ_eq_bigSepL [0, 1, 2] (by decide) (by decide) Φ
theorem list16 (Φ : Fin 16 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15) :=
  bigSep_univ_eq_bigSepL [0, 1, 2, 3, 4, 5, 6, 7, 8, 9, 10, 11, 12, 13, 14, 15] (by decide) (by decide) Φ
theorem list17 (Φ : Fin 17 → sProp 𝕄) : bigSep Finset.univ Φ
    = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16) :=
  bigSep_univ_eq_bigSepL [0, 1, 2, 3, 4, 5, 6, 7, 8, 9, 10, 11, 12, 13, 14, 15, 16] (by decide) (by decide) Φ

theorem fund_ring : BI.own (ER (initOf ringCells ringToks)) ⊢ (|==> bigSep Finset.univ (G m) : sProp 𝕄) := by
  have hX (Φ : GSem nD τ sig → sProp 𝕄) : bigSep ringCells Φ = bigSep Finset.univ fun c : Dev nD => bigSep Finset.univ fun k : Fin 17 => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => toks c := by
    unfold ringToks; rw [bigSep_map, bigSep_univ_prod]
    exact bigSep_congr fun c _ => by unfold toks; rw [bigSep_univ_sum, list3, list16]; rfl
  iintro HX
  imod (Rounds.fund ER (plan m) ringCells ringToks) $$ HX with ⟨Hst, Hr, Hat, Htok⟩
  imodintro
  ihave Hst' := (Entails.of_eq (hX fun g => roundState ER (plan m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

theorem ownSems0_eq (c : Dev nD) : (Pipeline.ownSems0 (Ix := Unit) (Name := ℕ) (U := UU) (Lvl := ℕ) (Val := Elt F) (τ := τ) osem c : sProp 𝕄)
    = zeroDone c := by
  rw [Pipeline.ownSems0_eq_of_list c osem [0, 1, 2, 3, 4, 5, 6, 7, 8, 9, 10, 11, 12, 13, 14, 15] (by decide) (by decide)]; rfl
theorem unscopedSems0_eq (c : Dev nD) : (unscopedSems0 c : sProp 𝕄) = semVal (bar c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : Fin 17 => semVal (kcell (c, k)) 0 : sProp 𝕄) := by
  rw [ownSems0_eq, unscopedSems0_eq, list17]
  iintro ⟨HZ, HB⟩
  isplitl [HB]; · iexact HB
  exact Entails.of_eq rfl

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : Fin 17 => semVal (kcell (c, k)) 0) ∗ bigSep Finset.univ fun k : Fin 17 => roundState ER (plan m) (kcell (c, k)) 0)
      ⊢ (|={Set.univ}=> bigSep Finset.univ fun k => iprop(∃ κ : ℕ, cellInv ER (plan m) κ (kcell (c, k))) : sProp 𝕄) from by
        rw [← bigSep_sep']
        exact (bigSep_mono fun k _ => (Rounds.body_intro ER (plan m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens dealt round the circle: each goes to the device that pays its duty. -/
theorem toks_around : (bigSep Finset.univ fun c : Dev nD => (toks c : sProp 𝕄)) ⊢ bigSep Finset.univ fun c : Dev nD => payToks c := by
  unfold toks payToks tokHold
  simp only [bigSep_sep']
  rw [bigSep_univ_equiv (turn 0) (fun c : Dev nD => (bk c 0 : sProp 𝕄)),
    bigSep_univ_equiv (turn 1) (fun c : Dev nD => (bk c 1 : sProp 𝕄)),
    bigSep_univ_equiv (turn 2) (fun c : Dev nD => (bk c 2 : sProp 𝕄)),
    bigSep_univ_equiv (turn 0) (fun c : Dev nD => (tk c (rcv 0 0) : sProp 𝕄)),
    bigSep_univ_equiv (turn 1) (fun c : Dev nD => (tk c (rcv 0 1) : sProp 𝕄)),
    bigSep_univ_equiv (turn 2) (fun c : Dev nD => (tk c (rcv 0 2) : sProp 𝕄)),
    bigSep_univ_equiv (turn 0) (fun c : Dev nD => (tk c (rcv 1 0) : sProp 𝕄)),
    bigSep_univ_equiv (turn 1) (fun c : Dev nD => (tk c (rcv 1 1) : sProp 𝕄)),
    bigSep_univ_equiv (turn 2) (fun c : Dev nD => (tk c (rcv 1 2) : sProp 𝕄))]
  exact Entails.of_eq rfl

theorem under_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem ghost_intro (K : Dev nD × Fin 17 → ℕ) (c : Dev nD) : iprop(records m K ∗ linear c) ⊢ G' m c := by
  unfold G'
  iintro H
  iexists K; iexact H

theorem pos_list (c : Dev nD) : (bigSep Finset.univ fun k : Fin 17 => (atPos ER (kcell (c, k)) 0 ∅ 0 : sProp 𝕄))
    = iprop(atPos ER (bar c) 0 ∅ 0 ∗ posHold c) := by
  rw [list17]; rfl

theorem regroup :
    (bigSep Finset.univ fun c : Dev nD => iprop((bigSep Finset.univ fun k => iprop(∃ κ : ℕ, cellInv ER (plan m) κ (kcell (c, k))))
          ∗ (bigSep Finset.univ fun k => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × Fin 17 => iprop(∃ κ : ℕ, cellInv ER (plan m) κ (kcell ck))),
    bigSep_congr (s := Finset.univ) (fun (c : Dev nD) _ => bigSep_sep' Finset.univ (fun k : Fin 17 => (atPos ER (kcell (c, k)) 0 ∅ 0 : sProp 𝕄)) (fun k => reached ER (kcell (c, k)) 0)),
    bigSep_sep', ← bigSep_univ_prod (fun ck : Dev nD × Fin 17 => (reached ER (kcell ck) 0 : sProp 𝕄))]
  iintro ⟨HI, ⟨Hat, #HR⟩, Htok⟩
  ihave HK := (BI.bigSep_exists_pi Finset.univ (fun (ck : Dev nD × Fin 17) (κ : ℕ) => (cellInv ER (plan m) κ (kcell ck) : sProp 𝕄))) $$ HI
  icases HK with ⟨%K, #HI⟩
  ihave Htk := (toks_around (F := F)) $$ Htok
  iapply (under_persistent (R := records m K) fun c _ => ghost_intro m K c)
  isplitr
  · unfold records; isplitl; · iexact HI
    iexact HR
  · iapply ((Entails.of_eq (bigSep_sep' Finset.univ (fun c : Dev nD => bigSep Finset.univ fun k : Fin 17 => (atPos ER (kcell (c, k)) 0 ∅ 0 : sProp 𝕄)) payToks).symm).trans
      (bigSep_mono fun c _ => show _ ⊢ linear c from Entails.of_eq (by unfold linear; rw [pos_list])))
    isplitl [Hat]; · iexact Hat
    iexact Htk

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

theorem up_eq_iff (k : Fin 3) (d c : Dev nD) : c = up k d ↔ d = dn k c := by revert k c d; decide

theorem bar_eq_iff (a b : Dev nD) : bar a = bar b ↔ a = b :=
  ⟨fun h => congrArg (fun g : GSem nD τ sig => g.1.1) h, fun h => h ▸ rfl⟩
theorem dc_eq_iff (a b : Dev nD) (i j : Fin 16) : dc a i = dc b j ↔ a = b ∧ i = j :=
  ⟨fun h => ⟨congrArg (fun g : GSem nD τ sig => g.1.1) h, SemLoc.dma.inj (congrArg (fun g : GSem nD τ sig => g.2) h)⟩,
    fun h => h.1 ▸ h.2 ▸ rfl⟩
theorem bar_ne_dc (a b : Dev nD) (j : Fin 16) : bar a ≠ dc b j := fun h =>
  absurd (congrArg (fun g : GSem nD τ sig => g.2) h) (fun h' => by cases h')

/-- What one receive debt of device `d` puts on a receive cell of device `c`. -/
theorem owe_at (d c : Dev nD) (g : Fin 2) (k : Fin 3) (i : Fin 16) :
    owe d g k (dc c i) () = if i = rcv g k ∧ d = dn k c then NS else 0 := by
  unfold owe; rw [tallyAt_apply]
  refine if_congr ⟨fun h => ?_, fun h => ?_⟩ rfl rfl
  · have := (dc_eq_iff _ _ _ _).mp h.1
    exact ⟨this.2, (up_eq_iff k d c).mp this.1⟩
  · exact ⟨(dc_eq_iff _ _ _ _).mpr ⟨(up_eq_iff k d c).mpr h.2, h.1⟩, rfl⟩
theorem owe_at_bar (d c : Dev nD) (g : Fin 2) (k : Fin 3) : owe d g k (bar c) () = 0 := by
  unfold owe; rw [tallyAt_apply, if_neg fun h => bar_ne_dc _ _ _ h.1]
theorem one_at (d c : Dev nD) (k : Fin 3) (i : Fin 16) : (tallyAt (bar (up k d)) () 1 : CellTallies nD τ sig Unit) (dc c i) () = 0 := by
  rw [tallyAt_apply, if_neg fun h => bar_ne_dc _ _ _ h.1.symm]
theorem one_at_bar (d c : Dev nD) (k : Fin 3) :
    (tallyAt (bar (up k d)) () 1 : CellTallies nD τ sig Unit) (bar c) () = if d = dn k c then 1 else 0 := by
  rw [tallyAt_apply]
  exact if_congr ⟨fun h => (up_eq_iff k d c).mp ((bar_eq_iff _ _).mp h.1), fun h => ⟨(bar_eq_iff _ _).mpr ((up_eq_iff k d c).mpr h), rfl⟩⟩ rfl rfl

theorem owed_bar (d c : Dev nD) : O₀ d (bar c) () = (if d = dn 2 c then 1 else 0) + (if d = dn 1 c then 1 else 0) + (if d = dn 0 c then 1 else 0) := by
  unfold O₀ B2 B1 R6 R5 R4 R3 R2 R1
  simp only [Pi.add_apply, Finsupp.add_apply, Pi.zero_apply, Finsupp.zero_apply]
  rw [owe_at_bar, owe_at_bar, owe_at_bar, owe_at_bar, owe_at_bar, owe_at_bar, one_at_bar, one_at_bar, one_at_bar]
  simp only [Nat.zero_add]

theorem owed_rcv (d c : Dev nD) (g : Fin 2) (k : Fin 3) : O₀ d (dc c (rcv g k)) () = if d = dn k c then NS else 0 := by
  unfold O₀ B2 B1 R6 R5 R4 R3 R2 R1
  simp only [Pi.add_apply, Finsupp.add_apply, Pi.zero_apply, Finsupp.zero_apply]
  rw [owe_at, owe_at, owe_at, owe_at, owe_at, owe_at, one_at, one_at, one_at]
  generalize NS = n
  fin_cases g <;> fin_cases k <;> simp (decide := true) [rcv]

theorem launch_bar (c : Dev nD) :
    tallyOn (bar c) (launchCredit (Pipeline.owing O₀) 0 (bar c)) = (tallyAt (bar c) () 3 : CellTallies nD τ sig Unit) := by
  unfold tallyAt; refine congrArg _ (Finsupp.ext fun u => ?_); cases u
  rw [Pipeline.launchCredit_owing, Finsupp.single_eq_same, Finset.sum_congr rfl fun d _ => owed_bar d c, Finset.sum_add_distrib, Finset.sum_add_distrib,
    Finset.sum_ite_eq' Finset.univ (dn 2 c) fun _ => 1, Finset.sum_ite_eq' Finset.univ (dn 1 c) fun _ => 1, Finset.sum_ite_eq' Finset.univ (dn 0 c) fun _ => 1,
    if_pos (Finset.mem_univ _), if_pos (Finset.mem_univ _), if_pos (Finset.mem_univ _)]

theorem amt_receive (g : Fin 2) (k : Fin 3) : amt (rcv g k) = NS := if_neg (by have := rcv_ge g k; omega)

theorem launch_rcv (c : Dev nD) (g : Fin 2) (k : Fin 3) :
    tallyOn (dc c (rcv g k)) (launchCredit (Pipeline.owing O₀) 0 (dc c (rcv g k))) = (tallyAt (dc c (rcv g k)) () (amt (rcv g k)) : CellTallies nD τ sig Unit) := by
  unfold tallyAt; refine congrArg _ (Finsupp.ext fun u => ?_); cases u
  rw [Pipeline.launchCredit_owing, Finsupp.single_eq_same, Finset.sum_congr rfl fun d _ => owed_rcv d c g k,
    Finset.sum_ite_eq' Finset.univ (dn k c) fun _ => NS, if_pos (Finset.mem_univ _), amt_receive]

/-- The cells that the devices owe to. -/
def owedTo : Finset (SemLoc sig) :=
  [SemLoc.reg barS, osem (rcv 0 0), osem (rcv 0 1), osem (rcv 0 2), osem (rcv 1 0), osem (rcv 1 1), osem (rcv 1 2)].toFinset

theorem creds (c : Dev nD) :
    (Pipeline.launchCred O₀ c : sProp 𝕄) ⊢ iprop(cred (tallyAt (bar c) () 3) ∗ credHold c) := by
  unfold Pipeline.launchCred
  refine (bigSep_subset (Finset.subset_univ owedTo)).trans ?_
  rw [bigSep_eq_bigSepL_of_eq [SemLoc.reg barS, osem (rcv 0 0), osem (rcv 0 1), osem (rcv 0 2), osem (rcv 1 0), osem (rcv 1 1), osem (rcv 1 2)] (by rfl) (by decide)]
  show iprop(cred (tallyOn (bar c) (launchCredit (Pipeline.owing O₀) 0 (bar c))) ∗ cred (tallyOn (dc c (rcv 0 0)) (launchCredit (Pipeline.owing O₀) 0 (dc c (rcv 0 0))))
    ∗ cred (tallyOn (dc c (rcv 0 1)) (launchCredit (Pipeline.owing O₀) 0 (dc c (rcv 0 1)))) ∗ cred (tallyOn (dc c (rcv 0 2)) (launchCredit (Pipeline.owing O₀) 0 (dc c (rcv 0 2))))
    ∗ cred (tallyOn (dc c (rcv 1 0)) (launchCredit (Pipeline.owing O₀) 0 (dc c (rcv 1 0)))) ∗ cred (tallyOn (dc c (rcv 1 1)) (launchCredit (Pipeline.owing O₀) 0 (dc c (rcv 1 1))))
    ∗ cred (tallyOn (dc c (rcv 1 2)) (launchCredit (Pipeline.owing O₀) 0 (dc c (rcv 1 2))))) ⊢ _
  rw [launch_bar, launch_rcv, launch_rcv, launch_rcv, launch_rcv, launch_rcv, launch_rcv]
  exact Entails.of_eq rfl

/-! ## The launch's side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  rw [Pipeline.unscopedRestP_none, unscopedRest0_eq]
  iintro ⟨⟨Ha, Hy⟩, Hlev, Hcr, -, HG⟩
  ihave Hc := (creds (F := F) c) $$ Hcr
  ihave Ha' := (Entails.of_eq (split_a m c)) $$ Ha
  ihave Hy' := (split_y c _) $$ Hy
  imodintro
  unfold start
  isplitl
  · isplitl [HG]; · iexact HG
    isplitl [Hc]; · iexact Hc
    isplitl [Hlev]; · iexact Hlev
    isplitl [Ha']; · iexact Ha'
    iexact Hy'
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, ⟨%f0, Hi⟩, ⟨%f1, Ho⟩, ⟨%f2, Ht⟩⟩
  isplitl [Hs]; · iexact Hs
  isplitl [Hi]; · iapply (split_i c f0); iexact Hi
  isplitl [Ho]; · iapply (split_o c f1); iexact Ho
  iapply (split_t c f2); iexact Ht

/-- What is read off at the end: the argument, the finished rows, and the barrier at zero. -/
def Y (c : Dev nD) : sProp 𝕄 :=
  iprop(((c : Thread nD τ).loc main_arg0 ↦{fullShare} m ((c : Thread nD τ).loc main_arg0)) ∗ yP c 0 (res m c 0) ∗ yP c 1 (res m c 1) ∗ unscopedSems0 c)

theorem phi1_exit (c : Dev nD) :
    (dats m 0 c).Φ (Fin.last cfg0.N) ⊢ iprop(Y m c ∗ Pipeline.ownSems0 osem c ∗ Pipeline.scopedRest cfg0.spec c) := by
  rw [show (dats m 0 c).Φ (Fin.last cfg0.N) = bodyDone m c from rfl, scopedRest0_eq, ownSems0_eq]
  unfold bodyDone bufDone Y
  rw [unscopedSems0_eq, split_a]
  iintro ⟨⟨Ha0, Ha1, Hy0, Hy1, Hi0, Hi1, Ho0, Ho1⟩, Hs, Hz, HB⟩
  isplitl [Ha0 Ha1 Hy0 Hy1 HB]
  · isplitl [Ha0 Ha1]; · (isplitl [Ha0] <;> iassumption)
    isplitl [Hy0]; · iexact Hy0
    isplitl [Hy1] <;> iassumption
  isplitl [Hz]; · iexact Hz
  isplitl [Hi0 Hi1]
  · iapply (join_i m c); isplitl [Hi0] <;> iassumption
  isplitl [Ho0 Ho1]
  · iapply (join_o c _ _); isplitl [Ho0]; · iexact Ho0
    iexact Ho1
  iapply (join_t m c); iexact Hs

theorem waits (c : Dev nD) : (levAts L lv : sProp 𝕄) ⊢ Pipeline.cellsWaits cfgs (dats m) () 0 c :=
  Pipeline.cellsWaits_intro cfgs (dats m) () 0 c fun w s t => w.elim0

/-! ## The run -/

/-- What device `c`'s memory holds at the end, and that its barrier counts zero. -/
def QY (c : Dev nD) (s : MemSt nD τ sig (Elt F)) : Prop :=
  (∀ sm : SemLoc sig, sm.isScoped .tc = false → s.sem ((c.tc : Thread nD τ), sm) = 0)
  ∧ s.mem ((c : Thread nD τ).loc main_arg0) = m ((c : Thread nD τ).loc main_arg0)
  ∧ ∀ g, (yH g).view.read (Elt F) (s.mem ((c : Thread nD τ).loc main_v1)) = res m c g

theorem read_off (c : Dev nD) (s' : Phys nD τ sig (Elt F)) :
    iprop(Y m c ∗ emp ∗ SI s') ⊢ (|={Set.univ}=> iprop(⌜QY m c s'.mem⌝ ∗ SI s') : sProp 𝕄) := by
  unfold Y yP
  iintro ⟨⟨Ha, Hy0, Hy1, Hu⟩, -, HSI⟩
  icombine HSI Ha gives %ha
  icombine HSI Hy0 gives %hy0
  icombine HSI Hy1 gives %hy1
  imod (Pipeline.unscopedSems0_read (X := unscopedSems0 c) (c := c) fupd_intro s') $$ [Hu HSI] with ⟨%hs, HSI⟩
  · isplitl [Hu] <;> iassumption
  imodintro
  isplitr [HSI]
  · ipureintro
    refine ⟨hs, Buf.eq_of_forall_mem_univ ha, fun g => ?_⟩
    match g with
    | 0 => exact read_y c 0 _ _ hy0
    | 1 => exact read_y c 1 _ _ hy1
  iexact HSI

set_option maxRecDepth 8000 in
/-- From any memory with zero counters every weakly fair execution on the four devices ends, with each argument as it was,
    each column group of each result reading the finished rows, and every semaphore at zero. -/
theorem run_main : θ_run defs (onTc (τ := τ) (main (F := F))) ⟨m, fun _ => 0, ρ⟩
    (fun r => (∀ c : Dev nD, r.2.mem ((c : Thread nD τ).loc main_arg0) = m ((c : Thread nD τ).loc main_arg0)
      ∧ ∀ g, (yH g).view.read (Elt F) (r.2.mem ((c : Thread nD τ).loc main_v1)) = res m c g) ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => w.elim0) (harr := arr_whole0) (hstage := stage_whole0) (hshare := fun c w => w.elim0)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_ring m) $$ HX with HG
      imodintro
      isplitl [HP] <;> iassumption)
    (hglob := glob m)
    (hA := fun _ _ => rfl) (hpf := fun _ k => k.elim0)
    (X := start m) (Y := Y m) (Z := fun _ => iprop(emp))
    (hX := start_intro m ρ) (hin := phi0_intro m) (hout := phi1_exit m)
    (QY := fun c s => QY m c s)
    (hY := read_off m)
    (hQ := fun _ h hs => ⟨fun c => (h c).2.2.2, sem_eq_zero hs fun c => (h c).2.2.1⟩)

end Cert.Exchange

end
-- ==== Proof.Scan.lean ====
/-
# The running product by doubling windows

The kernel multiplies a block with itself shifted down by 1, 2, 4, … rows, ones shifted in. After the shift by `d` an
element is the product of the last `2d` elements of its column. Here is that statement, over the extended reals, and its
use at each of the block's payloads.
-/
module

public import proofs.«01_k».proof.Proof.Protocol
public import Idealize.ShloMosaic.PureOps.Ideal
public import Idealize.ShloMosaic.Lib.ValueIdx
public import Idealize.ShloMosaic.Lib.ValueLayout
public import Idealize.ShloMosaic.Lib.IdealHost

@[expose] public section

noncomputable section

namespace Cert.Exchange

open Cert.KernelIdeal Cert.KernelIdeal.Gen
open Idealize.ShloMosaic Idealize.ShloMosaic.ValueIdx
open scoped BigOperators

/-! ## Products over windows -/

/-- The product of the `d` values of `f` that end at `i`; of all values up to `i` where there are fewer than `d`. -/
def win (d : ℕ) (f : ℕ → EReal) (i : ℕ) : EReal := ∏ j ∈ Finset.Ico (i + 1 - d) (i + 1), f j

/-- A window of one value is that value. -/
theorem win_one (f : ℕ → EReal) (i : ℕ) : win 1 f i = f i := by
  unfold win
  rw [Nat.add_sub_cancel, Finset.prod_Ico_succ_top (Nat.le_refl i), Finset.Ico_self, Finset.prod_empty, one_mul]

/-- A window of twice the length is the window times the window before it, where there is one. -/
theorem win_double (d : ℕ) (f : ℕ → EReal) (i : ℕ) :
    win (2 * d) f i = win d f i * if i < d then 1 else win d f (i - d) := by
  unfold win
  split
  · rw [mul_one, show i + 1 - 2 * d = i + 1 - d by omega]
  · rw [show i + 1 - 2 * d = i - d + 1 - d by omega, show i - d + 1 = i + 1 - d by omega, mul_comm]
    exact (Finset.prod_Ico_consecutive f (by omega) (by omega)).symm

/-- A window no shorter than the values before its end is the whole running product. -/
theorem win_all (d : ℕ) (f : ℕ → EReal) (i : ℕ) (h : i < d) : win d f i = ∏ j ∈ Finset.range (i + 1), f j := by
  unfold win
  rw [show i + 1 - d = 0 by omega, Finset.range_eq_Ico]

/-- Four windows of 512 values laid end to end are the product of 2048 values. -/
theorem win_four (f : ℕ → EReal) :
    win 512 f 511 * win 512 f 1023 * (win 512 f 1535 * win 512 f 2047) = ∏ j ∈ Finset.range 2048, f j := by
  unfold win
  rw [Finset.prod_Ico_consecutive f (by omega) (by omega), Finset.prod_Ico_consecutive f (by omega) (by omega),
    Finset.prod_Ico_consecutive f (by omega) (by omega), Finset.range_eq_Ico]

/-! ## Columns of a block -/

/-- Column `j` of a column group of a block, as a sequence; ones after its last row. -/
def col (x : FVec Ideal S2048x512 .bf16) (j : Fin 512) : ℕ → EReal :=
  fun i => if h : i < 2048 then x (ix2 (⟨i, h⟩ : Fin 2048) j) else 1

/-- Every element of `v` is the product of the last `d` elements of its column of `x`. -/
def Runs (d : ℕ) (x v : FVec Ideal S2048x512 .bf16) : Prop :=
  ∀ (i : Fin 2048) (j : Fin 512), v (ix2 i j) = win d (col x j) i.val

/-- A block is its own windows of one value. -/
theorem runs_one (x : FVec Ideal S2048x512 .bf16) : Runs 1 x x := fun i j => by
  rw [win_one]
  unfold col
  rw [dif_pos i.isLt]

/-- A block with ones in its first `d` rows and, below them, a block `v` shifted down by `d` rows. -/
theorem shift_apply {d n : ℕ} (hn : d + n = 2048) (v : FVec Ideal S2048x512 .bf16)
    (hs : S2048x512.Slices ![0, 0] ⟨2, ![n, 512]⟩)
    (hc : Shape.Concatenates [⟨2, ![d, 512]⟩, ⟨2, ![n, 512]⟩] S2048x512 0) (i : Fin 2048) (j : Fin 512) :
    concatenate S2048x512 0 [⟨⟨2, ![d, 512]⟩, broadcast ⟨2, ![d, 512]⟩ (Scalar.ofBits (F := Ideal) .bf16 0x3F80#16)⟩,
      ⟨⟨2, ![n, 512]⟩, extractStridedSlice ⟨2, ![n, 512]⟩ ![0, 0] v hs⟩] hc (ix2 i j)
      = if i.val < d then 1 else v (ix2 (⟨i.val - d, by omega⟩ : Fin 2048) j) := by
  split
  · rename_i h
    rw [concatenate_pair_apply_left (s₁ := ⟨2, ![d, 512]⟩) 0 _ _ hc (ix2 i j) rfl (ix2 (⟨i.val, h⟩ : Fin d) j) (fun b => by
      match b with
      | ⟨0, _⟩ => rfl
      | ⟨1, _⟩ => rfl)]
    exact Ideal.ofBits_one_bf16
  · rename_i h
    have hi : i.val - d < n := by have := i.isLt; omega
    rw [concatenate_pair_apply_right (s₁ := ⟨2, ![d, 512]⟩) (s₂ := ⟨2, ![n, 512]⟩) 0 _ _ hc (ix2 i j) rfl rfl
      (ix2 (⟨i.val - d, hi⟩ : Fin n) j) (fun b hb => by
        match b with
        | ⟨0, _⟩ => exact absurd rfl hb
        | ⟨1, _⟩ => rfl) (by show i.val - d + d = i.val; omega)]
    exact slice2_axis0_apply (m := n) 0 v hs ⟨i.val - d, hi⟩ j ⟨i.val - d, by omega⟩ (Nat.zero_add _).symm

/-- One doubling: a block of windows of `d` values, times itself shifted down by `d` rows, is the windows of `2d`. -/
theorem runs_step {d n e : ℕ} (hn : d + n = 2048) (he : e = 2 * d) {x v : FVec Ideal S2048x512 .bf16} (hv : Runs d x v)
    (hs : S2048x512.Slices ![0, 0] ⟨2, ![n, 512]⟩)
    (hc : Shape.Concatenates [⟨2, ![d, 512]⟩, ⟨2, ![n, 512]⟩] S2048x512 0) :
    Runs e x (mulf v (concatenate S2048x512 0
      [⟨⟨2, ![d, 512]⟩, broadcast ⟨2, ![d, 512]⟩ (Scalar.ofBits (F := Ideal) .bf16 0x3F80#16)⟩,
        ⟨⟨2, ![n, 512]⟩, extractStridedSlice ⟨2, ![n, 512]⟩ ![0, 0] v hs⟩] hc)) := fun i j => by
  subst he
  rw [win_double, ValueIdx.mulf_apply, shift_apply hn, hv i j]
  split
  · rfl
  · rw [hv]

/-! ## The payloads of the first column group -/

/-- The first shift. -/
theorem runs_pay1 (x : FVec Ideal S2048x512 .bf16) : Runs 2 x (k0_pay1 x) :=
  runs_step (d := 1) (n := 2047) rfl rfl (runs_one x) _ _

/-- The next eight shifts. -/
theorem runs_pay4 (x : FVec Ideal S2048x512 .bf16) : Runs 512 x (k0_pay4 (k0_pay1 x) k0_pay2 (k0_pay3 x)) :=
  runs_step (d := 256) (n := 1792) rfl rfl
    (runs_step (d := 128) (n := 1920) rfl rfl
      (runs_step (d := 64) (n := 1984) rfl rfl
        (runs_step (d := 32) (n := 2016) rfl rfl
          (runs_step (d := 16) (n := 2032) rfl rfl
            (runs_step (d := 8) (n := 2040) rfl rfl
              (runs_step (d := 4) (n := 2044) rfl rfl
                (runs_step (d := 2) (n := 2046) rfl rfl (runs_pay1 x) slices_S2048x512_o0_0_S2046x512 concatenates_S2x512_S2046x512_S2048x512_d0) _ _) _ _) _ _) _ _) _ _) _ _) _ _

/-- The shift by 512. -/
theorem runs_pay6 (x v : FVec Ideal S2048x512 .bf16) (h : Runs 512 x v) : Runs 1024 x (k0_pay6 v) :=
  runs_step (d := 512) (n := 1536) rfl rfl h _ _

/-- The shift by 1024. -/
theorem runs_pay7 (x v : FVec Ideal S2048x512 .bf16) (h : Runs 512 x v) : Runs 2048 x (mulf (k0_pay6 v) (k0_pay7 v)) :=
  runs_step (d := 1024) (n := 1024) rfl rfl (runs_pay6 x v h) slices_S2048x512_o0_0_S1024x512 concatenates_S1024x512_S1024x512_S2048x512_d0

/-! ## The payloads of the second column group -/

/-- The first six shifts. -/
theorem runs_pay8 (x : FVec Ideal S2048x512 .bf16) : Runs 64 x (k0_pay8 x) :=
  runs_step (d := 32) (n := 2016) rfl rfl
    (runs_step (d := 16) (n := 2032) rfl rfl
      (runs_step (d := 8) (n := 2040) rfl rfl
        (runs_step (d := 4) (n := 2044) rfl rfl
          (runs_step (d := 2) (n := 2046) rfl rfl
            (runs_step (d := 1) (n := 2047) rfl rfl (runs_one x) _ _) _ _) _ _) _ _) _ _) _ _

/-- The next three shifts. -/
theorem runs_pay10 (x : FVec Ideal S2048x512 .bf16) : Runs 512 x (k0_pay10 (k0_pay8 x) (k0_pay9 x)) :=
  runs_step (d := 256) (n := 1792) rfl rfl
    (runs_step (d := 128) (n := 1920) rfl rfl
      (runs_step (d := 64) (n := 1984) rfl rfl (runs_pay8 x) slices_S2048x512_o0_0_S1984x512 concatenates_S64x512_S1984x512_S2048x512_d0) _ _) _ _

/-- The shift by 512. -/
theorem runs_pay12 (x v : FVec Ideal S2048x512 .bf16) (h : Runs 512 x v) : Runs 1024 x (k0_pay12 v) :=
  runs_step (d := 512) (n := 1536) rfl rfl h _ _

/-- The shift by 1024. -/
theorem runs_pay13 (x v : FVec Ideal S2048x512 .bf16) (h : Runs 512 x v) : Runs 2048 x (mulf (k0_pay12 v) (k0_pay13 v)) :=
  runs_step (d := 1024) (n := 1024) rfl rfl (runs_pay12 x v h) slices_S2048x512_o0_0_S1024x512 concatenates_S1024x512_S1024x512_S2048x512_d0

/-! ## A block's product -/

/-- The elements of four rows multiplied, at a column. -/
theorem four_apply (v : FVec Ideal S2048x512 .bf16) (h0 : S2048x512.Slices ![511, 0] S1x512)
    (h1 : S2048x512.Slices ![1023, 0] S1x512) (h2 : S2048x512.Slices ![1535, 0] S1x512)
    (h3 : S2048x512.Slices ![2047, 0] S1x512) (h : S1x512.ShapeCasts S1x1x1x512) (j : Fin 512) :
    shapeCast S1x1x1x512 (mulf (mulf (extractStridedSlice S1x512 ![511, 0] v h0) (extractStridedSlice S1x512 ![1023, 0] v h1))
      (mulf (extractStridedSlice S1x512 ![1535, 0] v h2) (extractStridedSlice S1x512 ![2047, 0] v h3))) h
      (ix4 (0 : Fin 1) (0 : Fin 1) (0 : Fin 1) j)
      = v (ix2 (511 : Fin 2048) j) * v (ix2 (1023 : Fin 2048) j) * (v (ix2 (1535 : Fin 2048) j) * v (ix2 (2047 : Fin 2048) j)) := by
  rw [shapeCast_apply _ h (ix4 (0 : Fin 1) (0 : Fin 1) (0 : Fin 1) j) (ix2 (0 : Fin 1) j) (by
    rw [Shape.rowMajor_val_two, Shape.rowMajor_val_four]; rfl)]
  rw [ValueIdx.mulf_apply, ValueIdx.mulf_apply, ValueIdx.mulf_apply,
    slice2_axis0_apply 511 v h0 (0 : Fin 1) j (511 : Fin 2048) rfl, slice2_axis0_apply 1023 v h1 (0 : Fin 1) j (1023 : Fin 2048) rfl,
    slice2_axis0_apply 1535 v h2 (0 : Fin 1) j (1535 : Fin 2048) rfl, slice2_axis0_apply 2047 v h3 (0 : Fin 1) j (2047 : Fin 2048) rfl]

/-- Four rows of a block of windows of 512 values multiplied: the product of the column. -/
theorem four_runs (x v : FVec Ideal S2048x512 .bf16) (hv : Runs 512 x v) (j : Fin 512) :
    v (ix2 (511 : Fin 2048) j) * v (ix2 (1023 : Fin 2048) j) * (v (ix2 (1535 : Fin 2048) j) * v (ix2 (2047 : Fin 2048) j))
      = ∏ i ∈ Finset.range 2048, col x j i := by
  rw [hv, hv, hv, hv]
  exact win_four (col x j)

/-- What a device sends of a column group is the product of each column. -/
theorem tot4_apply (m : (ℓ : Loc nD τ sig) → Buf (Elt Ideal) ℓ) (c : Dev nD) (g : Fin 2) (j : Fin 512) :
    (tot4 m c g : S1x1x1x512.Idx → EReal) (ix4 (0 : Fin 1) (0 : Fin 1) (0 : Fin 1) j)
      = ∏ i ∈ Finset.range 2048, col (xin m c g) j i := by
  match g with
  | 0 => exact (four_apply (acc0 m c) _ _ _ _ _ j).trans (four_runs _ _ (runs_pay4 _) j)
  | 1 => exact (four_apply (acc1 m c) _ _ _ _ _ j).trans (four_runs _ _ (runs_pay10 _) j)

end Cert.Exchange

end
-- ==== Proof.KernelValue.lean ====
/-
# What the kernel computes

Over the extended reals: a device's finished block holds, at a row and a column, the product of that column of the whole
array down to that row. A device multiplies its own running product by the column products of the devices before it, and
by one for each device after it.
-/
module

public import proofs.«01_k».proof.Proof.Scan
public import Idealize.ShloMosaic.Lib.Layout

@[expose] public section

noncomputable section

namespace Cert.Exchange

open Cert.KernelIdeal Cert.KernelIdeal.Gen
open Idealize.ShloMosaic Idealize.ShloMosaic.ValueIdx
open Idealize.ShloMosaic.TcCoe
open scoped BigOperators

/-! ## Which products a device takes -/

/-- The kernel's test that the device `d` places before device `p`, counted modulo 4, has the smaller number. -/
def before (p d : BitVec 32) : BitVec 1 :=
  let q : BitVec 32 := Scalar.select (Scalar.cmpi .eq 4#32 0#32) 1#32 4#32
  let r : BitVec 32 := Scalar.remsi (Scalar.subi p d) q
  Scalar.cmpi .slt (Scalar.select (Scalar.andi (Scalar.xori (Scalar.cmpi .slt r 0#32) (Scalar.cmpi .slt q 0#32))
    (Scalar.cmpi .ne r 0#32)) (Scalar.addi r q) r) p

/-- The test holds of one, two and three places exactly on the devices with so many before them. -/
theorem before_eq (c : Fin 4) :
    before (pos c) 1#32 = (if 0 < c.val then 1#1 else 0#1) ∧ before (pos c) 2#32 = (if 1 < c.val then 1#1 else 0#1)
      ∧ before (pos c) 3#32 = (if 2 < c.val then 1#1 else 0#1) := by
  revert c
  decide

/-- A received column product where the test holds, ones elsewhere. -/
def pick (b : BitVec 1) (t : FVec Ideal S1x1x1x512 .bf16) : FVec Ideal S1x512 .bf16 :=
  Scalar.select b (shapeCast S1x512 t shapeCasts_S1x1x1x512_S1x512)
    (broadcast S1x512 (Scalar.truncf (F := Ideal) .bf16 bitsLt_bf16_f32 (Scalar.ofBits .f32 0x3F800000#32)))

/-- The same at a column. -/
theorem pick_apply (b : BitVec 1) (t : FVec Ideal S1x1x1x512 .bf16) (j : Fin 512) :
    pick b t (ix2 (0 : Fin 1) j) = if b = 1 then t (ix4 (0 : Fin 1) (0 : Fin 1) (0 : Fin 1) j) else 1 := by
  unfold pick Scalar.select
  by_cases h : b = 1
  · rw [if_pos h, if_pos h]
    exact shapeCast_apply t _ (ix2 (0 : Fin 1) j) (ix4 (0 : Fin 1) (0 : Fin 1) (0 : Fin 1) j) (by
      rw [Shape.rowMajor_val_two, Shape.rowMajor_val_four]; rfl)
  · rw [if_neg h, if_neg h]
    exact Ideal.ofBits_one_f32

/-- A block times a row of three picked products, at an element. -/
theorem times_apply (w : FVec Ideal S2048x512 .bf16) (b0 b1 b2 : BitVec 1) (t0 t1 t2 : FVec Ideal S1x1x1x512 .bf16)
    (hb : S1x512.Broadcasts S2048x512) (hc : S2048x512.ShapeCasts S2048x512) (i : Fin 2048) (j : Fin 512) :
    shapeCast S2048x512 (mulf w (broadcastTo S2048x512 (mulf (mulf (mulf
      (broadcast S1x512 (Scalar.ofBits (F := Ideal) .bf16 0x3F80#16)) (pick b0 t0)) (pick b1 t1)) (pick b2 t2)) hb)) hc (ix2 i j)
      = w (ix2 i j) * (pick b0 t0 (ix2 (0 : Fin 1) j) * pick b1 t1 (ix2 (0 : Fin 1) j) * pick b2 t2 (ix2 (0 : Fin 1) j)) := by
  rw [shapeCast_self, ValueIdx.mulf_apply, broadcastTo_1b_ab_apply, ValueIdx.mulf_apply, ValueIdx.mulf_apply,
    ValueIdx.mulf_apply]
  have e : broadcast S1x512 (Scalar.ofBits (F := Ideal) .bf16 0x3F80#16) (ix2 (0 : Fin 1) j) = (1 : EReal) :=
    Ideal.ofBits_one_bf16
  rw [e, one_mul]

/-! ## The whole column -/

/-- Column `J` of the whole array, as a sequence; ones after its last row. -/
def wcol (X : (⟨2, ![8192, 1024]⟩ : Shape).Idx → EReal) (J : Fin 1024) : ℕ → EReal :=
  fun i => if h : i < 8192 then X (ix2 (⟨i, h⟩ : Fin 8192) J) else 1

/-- A running product over the values before row `2048 c`, from the products of 2048 values each. -/
theorem prod_before (f : ℕ → EReal) (c : Fin 4) :
    (if 0 < c.val then ∏ i ∈ Finset.range 2048, f (2048 * (dn 0 c).val + i) else 1)
      * (if 1 < c.val then ∏ i ∈ Finset.range 2048, f (2048 * (dn 1 c).val + i) else 1)
      * (if 2 < c.val then ∏ i ∈ Finset.range 2048, f (2048 * (dn 2 c).val + i) else 1)
      = ∏ i ∈ Finset.range (2048 * c.val), f i := by
  have s (a : ℕ) : ∏ i ∈ Finset.range (2048 * (a + 1)), f i
      = (∏ i ∈ Finset.range (2048 * a), f i) * ∏ i ∈ Finset.range 2048, f (2048 * a + i) := by
    rw [Nat.mul_add, Nat.mul_one, Finset.prod_range_add]
  match c with
  | 0 => simp
  | 1 =>
    rw [if_pos (by decide), if_neg (by decide), if_neg (by decide), mul_one, mul_one,
      show ((1 : Fin 4).val) = 0 + 1 from rfl, s, Nat.mul_zero, Finset.range_zero, Finset.prod_empty, one_mul]
    rfl
  | 2 =>
    rw [if_pos (by decide), if_pos (by decide), if_neg (by decide), mul_one,
      show ((2 : Fin 4).val) = 0 + 1 + 1 from rfl, s, s, Nat.mul_zero, Finset.range_zero, Finset.prod_empty, one_mul, mul_comm]
    rfl
  | 3 =>
    rw [if_pos (by decide), if_pos (by decide), if_pos (by decide),
      show ((3 : Fin 4).val) = 0 + 1 + 1 + 1 from rfl, s, s, s, Nat.mul_zero, Finset.range_zero, Finset.prod_empty, one_mul,
      mul_comm _ (∏ i ∈ Finset.range 2048, f (2048 * (0 + 1 + 1) + i)), mul_comm _ (∏ i ∈ Finset.range 2048, f (2048 * (0 + 1) + i)),
      ← mul_assoc]
    rfl

/-! ## The finished rows -/

section
variable (m : (ℓ : Loc nD τ sig) → Buf (Elt Ideal) ℓ) (X : (⟨2, ![8192, 1024]⟩ : Shape).Idx → EReal)

/-- An element of a column group of a device's block, in the whole array. -/
theorem xin_apply (hX : ∀ c : Dev nD, m ((c : Thread nD τ).loc main_arg0) = Layout.block ⟨2, ![2048, 1024]⟩ ⟨2, ![8192, 1024]⟩ 0 4 c X)
    (c : Dev nD) (g : Fin 2) (i : Fin 2048) (j : Fin 512) :
    xin m c g (ix2 i j) = X (ix2 (⟨2048 * c.val + i.val, by have := i.isLt; have := c.isLt; have : nD = 4 := rfl; omega⟩ : Fin 8192)
      (⟨512 * g.val + j.val, by omega⟩ : Fin 1024)) := by
  have e : xin m c g (ix2 i j) = m ((c : Thread nD τ).loc main_arg0) (ix2 i (⟨512 * g.val + j.val, by omega⟩ : Fin 1024)) := by
    unfold xin
    rw [View.read_apply]
    refine congrArg (m ((c : Thread nD τ).loc main_arg0)) (funext fun a => Fin.ext ?_)
    match a with
    | ⟨0, _⟩ => show 0 + 1 * i.val = i.val; omega
    | ⟨1, _⟩ => show 512 * g.val + 1 * j.val = 512 * g.val + j.val; omega
  rw [e, hX c, Layout.block_apply]
  refine congrArg X (funext fun a => Fin.ext ?_)
  match a with
  | ⟨0, _⟩ => show c.val * 2048 + i.val = 2048 * c.val + i.val; omega
  | ⟨1, _⟩ => rfl

variable (hX : ∀ c : Dev nD, m ((c : Thread nD τ).loc main_arg0) = Layout.block ⟨2, ![2048, 1024]⟩ ⟨2, ![8192, 1024]⟩ 0 4 c X)
include hX

/-- A column of a device's block is a stretch of the whole column. -/
theorem col_xin (c : Dev nD) (g : Fin 2) (j : Fin 512) (i : ℕ) (h : i < 2048) :
    col (xin m c g) j i = wcol X (⟨512 * g.val + j.val, by omega⟩ : Fin 1024) (2048 * c.val + i) := by
  have hc : c.val < 4 := c.isLt
  unfold col wcol
  rw [dif_pos h, dif_pos (by omega), xin_apply m X hX]

/-- The product of a column of a device's block. -/
theorem got_apply (c : Dev nD) (k : Fin 3) (g : Fin 2) (j : Fin 512) :
    (got m c k g : S1x1x1x512.Idx → EReal) (ix4 (0 : Fin 1) (0 : Fin 1) (0 : Fin 1) j)
      = ∏ i ∈ Finset.range 2048, wcol X (⟨512 * g.val + j.val, by omega⟩ : Fin 1024) (2048 * (dn k c).val + i) :=
  (tot4_apply m (dn k c) g j).trans (Finset.prod_congr rfl fun i hi => col_xin m X hX _ g j i (Finset.mem_range.mp hi))

/-- The three picked products together are the product of the whole column before the device's block. -/
theorem picks_apply (c : Dev nD) (g : Fin 2) (j : Fin 512) :
    (pick (before (pos c) 1#32) (got m c 0 g) (ix2 (0 : Fin 1) j) * pick (before (pos c) 2#32) (got m c 1 g) (ix2 (0 : Fin 1) j)
      * pick (before (pos c) 3#32) (got m c 2 g) (ix2 (0 : Fin 1) j) : EReal)
      = ∏ i ∈ Finset.range (2048 * c.val), wcol X (⟨512 * g.val + j.val, by omega⟩ : Fin 1024) i := by
  have one (n : ℕ) : ((if n < c.val then 1#1 else 0#1 : BitVec 1) = 1) = (n < c.val) := by
    by_cases h : n < c.val <;> simp [h]
  obtain ⟨h0, h1, h2⟩ := before_eq c
  rw [pick_apply, pick_apply, pick_apply, h0, h1, h2]
  simp only [one]
  rw [got_apply m X hX, got_apply m X hX, got_apply m X hX]
  exact prod_before _ c

/-- A block's running product times the product before the block is the running product of the whole column. -/
theorem whole (c : Dev nD) (g : Fin 2) (w : FVec Ideal S2048x512 .bf16) (hw : Runs 2048 (xin m c g) w) (i : Fin 2048) (j : Fin 512) :
    w (ix2 i j) * (∏ i ∈ Finset.range (2048 * c.val), wcol X (⟨512 * g.val + j.val, by omega⟩ : Fin 1024) i)
      = ∏ r ∈ Finset.range (2048 * c.val + i.val + 1), wcol X (⟨512 * g.val + j.val, by omega⟩ : Fin 1024) r := by
  rw [hw i j, win_all _ _ _ i.isLt, Nat.add_assoc, Finset.prod_range_add _ (2048 * c.val), mul_comm]
  refine congrArg (fun z : EReal => (∏ i ∈ Finset.range (2048 * c.val), wcol X (⟨512 * g.val + j.val, by omega⟩ : Fin 1024) i) * z)
    (Finset.prod_congr rfl fun r hr => col_xin m X hX c g j r ?_)
  have := Finset.mem_range.mp hr
  omega

/-- A finished element is the product of its column of the whole array down to its row. -/
theorem res_apply (c : Dev nD) (g : Fin 2) (i : Fin 2048) (j : Fin 512) :
    (res m c g : S2048x512.Idx → EReal) (ix2 i j)
      = ∏ r ∈ Finset.range (2048 * c.val + i.val + 1), wcol X (⟨512 * g.val + j.val, by omega⟩ : Fin 1024) r := by
  match g with
  | 0 =>
    refine (times_apply (mulf (k0_pay6 (acc0 m c)) (k0_pay7 (acc0 m c))) (before (pos c) 1#32) (before (pos c) 2#32)
      (before (pos c) 3#32) (got m c 0 0) (got m c 1 0) (got m c 2 0) _ _ i j).trans ?_
    rw [picks_apply m X hX]
    exact whole m X hX c 0 _ (runs_pay7 _ _ (runs_pay4 _)) i j
  | 1 =>
    refine (times_apply (mulf (k0_pay12 (acc1 m c)) (k0_pay13 (acc1 m c))) (before (pos c) 1#32) (before (pos c) 2#32)
      (before (pos c) 3#32) (got m c 0 1) (got m c 1 1) (got m c 2 1) _ _ i j).trans ?_
    rw [picks_apply m X hX]
    exact whole m X hX c 1 _ (runs_pay13 _ _ (runs_pay10 _)) i j

/-- An array whose two column groups are a device's finished rows holds the running products of the whole columns. -/
theorem half_apply (c : Dev nD) (f : Buf (Elt Ideal) ((c : Thread nD τ).loc main_v1))
    (hf : ∀ g, (yH g).view.read (Elt Ideal) f = res m c g) (i : Fin 2048) (J : Fin 1024) :
    (f : S2048x1024.Idx → EReal) (ix2 i J) = ∏ r ∈ Finset.range (2048 * c.val + i.val + 1), wcol X J r := by
  have hg : J.val / 512 < 2 := by omega
  have hj : J.val % 512 < 512 := Nat.mod_lt _ (by omega)
  have hJ : (⟨512 * (J.val / 512) + J.val % 512, by omega⟩ : Fin 1024) = J := Fin.ext (by show 512 * (J.val / 512) + J.val % 512 = J.val; omega)
  have e : (yH ⟨J.val / 512, hg⟩).view.read (Elt Ideal) f (ix2 i (⟨J.val % 512, hj⟩ : Fin 512)) = (f : S2048x1024.Idx → EReal) (ix2 i J) := by
    rw [View.read_apply]
    refine congrArg f (funext fun a => Fin.ext ?_)
    match a with
    | ⟨0, _⟩ => show 0 + 1 * i.val = i.val; omega
    | ⟨1, _⟩ => show 512 * (J.val / 512) + 1 * (J.val % 512) = J.val; omega
  rw [← e, hf, res_apply m X hX c ⟨J.val / 512, hg⟩ i ⟨J.val % 512, hj⟩]
  exact congrArg (fun K => ∏ r ∈ Finset.range (2048 * c.val + i.val + 1), wcol X K r) hJ

end

end Cert.Exchange

end
-- ==== Proof.RefValue.lean ====
/-
# What the reference computes

Over the extended reals: after `k` trips of its loop the reference holds the product of each column down to row `k`, and
has written the first `k` rows of its result.
-/
module

public import proofs.«01_k».proof.Proof.Gen.ReferenceIdeal
public import proofs.«01_k».proof.Proof.Gen.ReferenceIdeal.Run
public import proofs.«01_k».proof.Proof.KernelValue
public import Idealize.ShloMosaic.Lib.WordCmp
public import Idealize.ShloMosaic.Lib.Tactic

@[expose] public section

noncomputable section

namespace Cert.Running

open Cert.ReferenceIdeal Cert.ReferenceIdeal.Gen Cert.ReferenceIdeal.Value
open Cert.Exchange (wcol)
open Idealize.ShloMosaic Idealize.ShloMosaic.ValueIdx Idealize.ShloMosaic.StableHlo
open Idealize.ShloMosaic.Tactic
open Idealize.ShloMosaic.TcCoe
open Idealize.SL.Sem
open scoped BigOperators

/-- The one row that a slice of one row from row `k` reads. -/
theorem row_of {α : Type} (x : S8192x1024.Idx → α) (st : Fin 2 → ℤ) (h : S8192x1024.Slices (fun _ => 0) S1x1024) (k : ℕ) (hk : k < 8192)
    (e0 : st 0 = (k : ℤ)) (e1 : st 1 = 0) (J : Fin 1024) :
    Host.dynamicSlice S1x1024 x st h (ix2 (0 : Fin 1) J) = x (ix2 (⟨k, hk⟩ : Fin 8192) J) := by
  have hs : S8192x1024.Slices ![k, 0] S1x1024 := ⟨rfl, fun a => by
    match a with
    | ⟨0, _⟩ => show k + 1 ≤ 8192; omega
    | ⟨1, _⟩ => show 0 + 1024 ≤ 1024; omega⟩
  rw [WordCmp.dynamicSlice_eq_extract S1x1024 x st h ![k, 0] hs (fun a => by
    match a with
    | ⟨0, _⟩ => exact e0
    | ⟨1, _⟩ => exact e1)]
  exact slice2_axis0_apply k x hs (0 : Fin 1) J ⟨k, hk⟩ (Nat.add_zero k).symm

/-- A row written at row `k`: that row there, the array's rows elsewhere. -/
theorem put_row {α : Type} (x : S8192x1024.Idx → α) (u : S1x1024.Idx → α) (st : Fin 2 → ℤ)
    (h : S8192x1024.Slices (fun _ => 0) S1x1024) (k : ℕ) (hk : k < 8192)
    (e0 : st 0 = (k : ℤ)) (e1 : st 1 = 0) (r : Fin 8192) (J : Fin 1024) :
    Host.dynamicUpdateSlice x u st h (ix2 r J) = if r.val = k then u (ix2 (0 : Fin 1) J) else x (ix2 r J) := by
  have hs : S8192x1024.Slices ![k, 0] S1x1024 := ⟨rfl, fun a => by
    match a with
    | ⟨0, _⟩ => show k + 1 ≤ 8192; omega
    | ⟨1, _⟩ => show 0 + 1024 ≤ 1024; omega⟩
  rw [WordCmp.dynamicUpdateSlice_eq_update x u st h ![k, 0] hs (fun a => by
    match a with
    | ⟨0, _⟩ => exact e0
    | ⟨1, _⟩ => exact e1)]
  unfold updateSlice
  by_cases hr : r.val = k
  · rw [if_pos hr, dif_pos (fun a => by
      match a with
      | ⟨0, _⟩ => show k ≤ r.val ∧ r.val < k + 1; omega
      | ⟨1, _⟩ => show 0 ≤ J.val ∧ J.val < 0 + 1024; omega)]
    refine congrArg u (funext fun a => Fin.ext ?_)
    match a with
    | ⟨0, _⟩ => show r.val - k = 0; omega
    | ⟨1, _⟩ => show J.val - 0 = J.val; omega
  · rw [if_neg hr, dif_neg]
    intro hin
    have h0 : k ≤ r.val ∧ r.val < k + 1 := hin 0
    omega

/-- What the loop has computed before trip `k`. -/
def Inv (X : S8192x1024.Idx → EReal) (k : ℕ) (V : Valuation τ sig (Elt Ideal)) : Prop :=
  (V (Proc.devRef .tc main_v2_0) : S8192x1024.Idx → EReal) = X
  ∧ V (Proc.devRef .tc main_v2_1) = (fun _ => BitVec.ofNat 32 k : S_.Idx → BitVec 32)
  ∧ (∀ J : Fin 1024, (V (Proc.devRef .tc main_v2_2) : S1024.Idx → EReal) (ix1 J) = ∏ i ∈ Finset.range k, wcol X J i)
  ∧ ∀ (r : Fin 8192) (J : Fin 1024), r.val < k →
      (V (Proc.devRef .tc main_v2_3) : S8192x1024.Idx → EReal) (ix2 r J) = ∏ i ∈ Finset.range (r.val + 1), wcol X J i

/-- A word below 8192 read as a signed number. -/
theorem word_toInt (k : ℕ) (hk : k < 8192) : (BitVec.ofNat 32 k).toInt = (k : ℤ) := by
  rw [BitVec.toInt_eq_toNat_cond, BitVec.toNat_ofNat, Nat.mod_eq_of_lt (by omega), if_pos (by omega)]

section
variable (X : S8192x1024.Idx → EReal) (k : ℕ) (hk : k < 8192) (V : Valuation τ sig (Elt Ideal)) (hV : Inv X k V)
include hk hV

/-- The trip's product: one row further down. -/
theorem mul_row (J : Fin 1024) :
    (res_main_while0b_v4 V : S1024.Idx → EReal) (ix1 J) = ∏ i ∈ Finset.range (k + 1), wcol X J i := by
  obtain ⟨h0, h1, h2, h3⟩ := hV
  unfold res_main_while0b_v4
  rw [ValueIdx.mulf_apply, h2, shapeCast_1a_a_apply, Finset.prod_range_succ, row_of _ _ _ k hk (by
    show ((V (Proc.devRef .tc main_v2_1) : S_.Idx → BitVec 32) _).toInt = (k : ℤ)
    rw [h1]; exact word_toInt k hk) rfl]
  refine congrArg (_ * ·) ?_
  rw [h0]
  unfold wcol
  rw [dif_pos hk]

/-- One trip. -/
theorem inv_step : Inv X (k + 1) (STEP V) := by
  have hm := mul_row X k hk V hV
  obtain ⟨h0, h1, h2, h3⟩ := hV
  refine ⟨(STEP_main_v2_0 V).trans h0, ?_, fun J => ?_, fun r J hr => ?_⟩
  · rw [STEP_main_v2_1]
    unfold step_main_v2_1
    rw [h1]
    funext i
    show BitVec.ofNat 32 k + 1#32 = BitVec.ofNat 32 (k + 1)
    rw [BitVec.ofNat_add]
  · rw [STEP_main_v2_2]
    exact hm J
  · rw [STEP_main_v2_3]
    unfold step_main_v2_3
    rw [id, put_row _ _ _ _ k hk (by
      show ((V (Proc.devRef .tc main_v2_1) : S_.Idx → BitVec 32) _).toInt = (k : ℤ)
      rw [h1]; exact word_toInt k hk) rfl]
    split
    · rename_i e
      rw [broadcastInDim_apply _ _ _ (ix2 (0 : Fin 1) J) (ix1 J) (fun a => by
        match a with
        | ⟨0, _⟩ => rfl), hm J, e]
    · exact h3 r J (by omega)

end

/-- Any number of trips from a loop's entry. -/
theorem inv_iterate (X : S8192x1024.Idx → EReal) (V : Valuation τ sig (Elt Ideal)) (h : Inv X 0 V) :
    ∀ k, k ≤ 8192 → Inv X k (STEP^[k] V)
  | 0, _ => h
  | k + 1, hk => by
    rw [Function.iterate_succ_apply']
    exact inv_step X k (by omega) _ (inv_iterate X V h k (by omega))

variable (m : (ℓ : Loc nD τ sig) → Buf (Elt Ideal) ℓ)

/-- The loop's entry: the argument, the counter at zero, a row of ones, and nothing yet written. -/
theorem inv_entry (c : Dev nD) : Inv (m ((c : Thread nD τ).loc main_arg0)) 0 (entryContents preI m c) := by
  refine ⟨?_, ?_, fun J => ?_, fun r J hr => absurd hr (Nat.not_lt_zero _)⟩
  · simp only [entryContents, afterL_cons, afterL_nil]
    after_reads_simp
    rfl
  · exact ctr_entry m c
  · simp only [entryContents, afterL_cons, afterL_nil]
    after_reads_simp
    exact Ideal.ofBits_one_bf16

/-- The reference's result: at a row and a column, the product of the column down to the row. -/
theorem result_apply (c : Dev nD) (r : Fin 8192) (J : Fin 1024) :
    ((STEP^[8192] (entryContents preI m c)) (Proc.devRef .tc main_v2_3) : S8192x1024.Idx → EReal) (ix2 r J)
      = ∏ i ∈ Finset.range (r.val + 1), wcol (m ((c : Thread nD τ).loc main_arg0)) J i :=
  (inv_iterate _ _ (inv_entry m c) 8192 (Nat.le_refl _)).2.2.2 r J r.isLt

end Cert.Running

end
-- ==== Proof.Equation.lean ====
/-
# The claims

Every claim of the certificate, from the kernel's run, the reference's run, and the two values.
-/
module

public import proofs.«01_k».proof.Defs
public import proofs.«01_k».proof.Proof.Gen.Kernel
public import proofs.«01_k».proof.Proof.Launch
public import proofs.«01_k».proof.Proof.RefValue
public import Idealize.ShloMosaic.Lib.Quiescent

@[expose] public section

noncomputable section

namespace Cert.Exchange

open Idealize.ShloMosaic Idealize.ShloMosaic.ValueIdx Idealize.SL.Sem

/-- The idealized kernel terminates with its argument unchanged and every semaphore at zero. -/
theorem frame_ideal : Cert.quiescent_KernelIdeal := fun m ρ _ =>
  (θ_run Cert.KernelIdeal.defs _ _).mono (fun _ h => ⟨fun c => (h.1 c).1, h.2⟩) (run_main (F := Ideal) m ρ)

/-- The kernel terminates with its argument unchanged and every semaphore at zero: it is the idealized program, read at
    the hardware's numbers. -/
theorem frame_kernel : Cert.quiescent_Kernel := fun m ρ _ =>
  (θ_run Cert.KernelIdeal.defs _ _).mono (fun _ h => ⟨fun c => (h.1 c).1, h.2⟩) (run_main (F := Bits) m ρ)

/-- The reference terminates with its argument unchanged; it has no semaphore. -/
theorem frame_reference : Cert.quiescent_ReferenceIdeal := fun m ρ _ =>
  (θ_run Cert.ReferenceIdeal.defs _ _).mono (fun r h => ⟨fun c => (h c).2, sem_eq_zero_of_no_sems rfl r.2⟩)
    (Cert.ReferenceIdeal.Value.run (F := Ideal) m ρ)

/-- The kernel's blocks are the blocks of the reference's result. -/
theorem same_value : Cert.algebraic_KernelIdeal_ReferenceIdeal := fun m ρ m' ρ' _ hX => by
  refine ⟨_, (θ_run Cert.KernelIdeal.defs _ _).mono (fun r h c => ⟨?_, (h.1 c).1⟩) (run_main (F := Ideal) m ρ),
    (θ_run Cert.ReferenceIdeal.defs _ _).mono (fun r h => ⟨(h 0).1, (h 0).2⟩) (Cert.ReferenceIdeal.Value.run (F := Ideal) m' ρ')⟩
  have hc : c.val < 4 := c.isLt
  funext y
  have hy0 : (y 0).val < 2048 := (y 0).isLt
  have hy1 : (y 1).val < 1024 := (y 1).isLt
  have ey : y = ix2 (⟨(y 0).val, hy0⟩ : Fin 2048) (⟨(y 1).val, hy1⟩ : Fin 1024) := eq_ix2 y
  rw [Layout.block_apply]
  have et (h : Layout.Tiles ⟨2, ![2048, 1024]⟩ ⟨2, ![8192, 1024]⟩ 0 4) :
      h.idx c y = ix2 (⟨2048 * c.val + (y 0).val, by omega⟩ : Fin 8192) (⟨(y 1).val, hy1⟩ : Fin 1024) := by
    funext a
    refine Fin.ext ?_
    match a with
    | ⟨0, _⟩ => show c.val * 2048 + (y 0).val = 2048 * c.val + (y 0).val; omega
    | ⟨1, _⟩ => rfl
  rw [et]
  refine Eq.trans ?_ (Cert.Running.result_apply m' 0 _ _).symm
  refine (congrArg _ ey).trans ?_
  exact half_apply m _ hX c _ (h.1 c).2 _ _

end Cert.Exchange

end
-- ==== Proof.lean ====
/-
# The certificate

The claims about the kernel, one by one: the two frames of the kernel, the frame of the reference, that the idealized
kernel is the kernel with no operation rewritten, and that kernel and reference compute the same array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Equation

@[expose] public section

noncomputable section

namespace Cert.Proof

/-- All five claims. -/
theorem claim : Cert.Claim :=
  ⟨Cert.Kernel.Gen.facts, Cert.KernelIdeal.Gen.facts, Cert.ReferenceIdeal.Gen.facts,
    Cert.Exchange.frame_kernel, Cert.Exchange.frame_ideal, Cert.Exchange.frame_reference, trivial, Cert.Exchange.same_value⟩

end Cert.Proof

end
